-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "eps" .f32 0x358637BD#32 ((1 / 1000000 : ℝ) : EReal)
  ∧ IdealRules.named_const.Statement Cert.KernelIdeal.κ "one_minus_eps" .f32 0x3F7FFFEF#32 ((999999 / 1000000 : ℝ) : EReal)
  ∧ IdealRules.named_const.Statement Cert.KernelIdeal.κ "log_eps" .f32 0xC15D0C55#32 ((Real.log (1 / 1000000) : ℝ) : EReal)
  ∧ IdealRules.named_const.Statement Cert.KernelIdeal.κ "log_one_minus_eps" .f32 0xB58637C1#32 ((Real.log (999999 / 1000000) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_c_3)) (v3 : (c : Dev Cert.KernelIdeal.nD) → Buf (Elt Ideal) ((c.tc : Thread Cert.KernelIdeal.nD Cert.KernelIdeal.τ).loc Cert.KernelIdeal.main_c_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_c_3) = v2 c
          ∧ r.2.mem ((c.tc : Thread Cert.KernelIdeal.nD Cert.KernelIdeal.τ).loc Cert.KernelIdeal.main_c_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_c) = v2 c
          ∧ r.2.mem ((c.tc : Thread Cert.ReferenceIdeal.nD Cert.ReferenceIdeal.τ).loc Cert.ReferenceIdeal.main_c_6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x1024 : Shape := ⟨2, ![4096, 1024]⟩
abbrev S4096x26 : Shape := ⟨2, ![4096, 26]⟩
abbrev S26x1088x64 : Shape := ⟨3, ![26, 1088, 64]⟩
abbrev S26x64 : Shape := ⟨2, ![26, 64]⟩
abbrev S_ : Shape := ⟨0, ![]⟩

class Facts : Prop where
  bcast_S_S4096x1024 : S_.BroadcastsInDim S4096x1024 (![] : Fin 0 → Fin S4096x1024.rank)
  bcast_S_S26x1088x64 : S_.BroadcastsInDim S26x1088x64 (![] : Fin 0 → Fin S26x1088x64.rank)
  bcast_S_S26x64 : S_.BroadcastsInDim S26x64 (![] : Fin 0 → Fin S26x64.rank)

variable [Facts]

def fn {F : FTy → Type} [FloatOps F] (main_arg0 : FVec F S4096x1024 .f32) (main_arg1 : IVec S4096x26 32) (main_arg2 : FVec F S26x1088x64 .f32) (main_arg3 : FVec F S26x64 .f32) (main_arg4 : IVec S_ 32) : IVec S4096x1024 1 × IVec S26x1088x64 1 × IVec S26x64 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S26x1088x64 .f32 := Host.absf main_arg2
  let main_cst_0 : FVec F S_ .f32 := constant S_ .f32 0x7F800000#32
  let main_v4 : FVec F S26x1088x64 .f32 := broadcastInDim S26x1088x64 ![] bcast_S_S26x1088x64 main_cst_0
  let main_v5 : IVec S26x1088x64 1 := cmpf .olt main_v3 main_v4
  let main_v6 : FVec F S26x64 .f32 := Host.absf main_arg3
  let main_cst_1 : FVec F S_ .f32 := constant S_ .f32 0x7F800000#32
  let main_v7 : FVec F S26x64 .f32 := broadcastInDim S26x64 ![] bcast_S_S26x64 main_cst_1
  let main_v8 : IVec S26x64 1 := cmpf .olt main_v6 main_v7
  (main_v2, main_v5, main_v8)
-- ==== Kernel.lean ====
abbrev S4096x1024 : Shape := ⟨2, ![4096, 1024]⟩
abbrev S4096x26 : Shape := ⟨2, ![4096, 26]⟩
abbrev S26x1088x64 : Shape := ⟨3, ![26, 1088, 64]⟩
abbrev S26x64 : Shape := ⟨2, ![26, 64]⟩
abbrev S_ : Shape := ⟨0, ![]⟩
abbrev S1088x26x64 : Shape := ⟨3, ![1088, 26, 64]⟩
abbrev S1088x1664 : Shape := ⟨2, ![1088, 1664]⟩
abbrev S1024x1664 : Shape := ⟨2, ![1024, 1664]⟩
abbrev S26x64x64 : Shape := ⟨3, ![26, 64, 64]⟩
abbrev S13x128x128 : Shape := ⟨3, ![13, 128, 128]⟩
abbrev S13x64x64 : Shape := ⟨3, ![13, 64, 64]⟩
abbrev S1 : Shape := ⟨1, ![1]⟩
abbrev S2 : Shape := ⟨1, ![2]⟩
abbrev S1x1664 : Shape := ⟨2, ![1, 1664]⟩
abbrev S1x1 : Shape := ⟨2, ![1, 1]⟩
abbrev S512x1024 : Shape := ⟨2, ![512, 1024]⟩
abbrev S512x26 : Shape := ⟨2, ![512, 26]⟩
abbrev S512x128 : Shape := ⟨2, ![512, 128]⟩
abbrev S1024x128 : Shape := ⟨2, ![1024, 128]⟩
abbrev S512x1 : Shape := ⟨2, ![512, 1]⟩
abbrev S1x128x128 : Shape := ⟨3, ![1, 128, 128]⟩
abbrev S128x128 : Shape := ⟨2, ![128, 128]⟩
abbrev S1x128 : Shape := ⟨2, ![1, 128]⟩
abbrev S512 : Shape := ⟨1, ![512]⟩
abbrev S1x512x128 : Shape := ⟨3, ![1, 512, 128]⟩
abbrev S1x1x1 : Shape := ⟨3, ![1, 1, 1]⟩

abbrev nBuf : Space → Nat
  | .hbm => 31
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x26, .i32⟩
  | .hbm, ⟨2, _⟩ => ⟨S26x1088x64, .f32⟩
  | .hbm, ⟨3, _⟩ => ⟨S26x64, .f32⟩
  | .hbm, ⟨4, _⟩ => ⟨S_, .i32⟩
  | .hbm, ⟨5, _⟩ => ⟨S1088x26x64, .f32⟩
  | .hbm, ⟨6, _⟩ => ⟨S1088x1664, .f32⟩
  | .hbm, ⟨7, _⟩ => ⟨S1024x1664, .f32⟩
  | .hbm, ⟨8, _⟩ => ⟨S26x64x64, .f32⟩
  | .hbm, ⟨9, _⟩ => ⟨S_, .f32⟩
  | .hbm, ⟨10, _⟩ => ⟨S13x128x128, .f32⟩
  | .hbm, ⟨11, _⟩ => ⟨S13x64x64, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S13x128x128, .f32⟩
  | .hbm, ⟨18, _⟩ => ⟨S13x64x64, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S13x128x128, .f32⟩
  | .hbm, ⟨25, _⟩ => ⟨S1x1664, .f32⟩
  | .hbm, ⟨26, _⟩ => ⟨S4096x26, .i32⟩
  | .hbm, ⟨27, _⟩ => ⟨S1x1, .f32⟩
  | .hbm, ⟨28, _⟩ => ⟨S_, .f32⟩
  | .hbm, ⟨29, _⟩ => ⟨S_, .i32⟩
  | .hbm, ⟨30, _⟩ => ⟨S_, .i32⟩
  | .local _ .vmem, ⟨0, _⟩ => ⟨S512x1024, .f32⟩
  | .local _ .vmem, ⟨1, _⟩ => ⟨S512x1024, .f32⟩
  | .local _ .vmem, ⟨2, _⟩ => ⟨S512x26, .i32⟩
  | .local _ .vmem, ⟨3, _⟩ => ⟨S512x26, .i32⟩
  | .local _ .vmem, ⟨4, _⟩ => ⟨S1024x1664, .f32⟩
  | .local _ .vmem, ⟨5, _⟩ => ⟨S13x128x128, .f32⟩
  | .local _ .vmem, ⟨6, _⟩ => ⟨S1x1664, .f32⟩
  | .local _ .vmem, ⟨7, _⟩ => ⟨S512x26, .i32⟩
  | .local _ .vmem, ⟨8, _⟩ => ⟨S512x26, .i32⟩
  | .local _ .vmem, ⟨9, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v17 : Ref sig .tc := ⟨.hbm, 28, rfl⟩
abbrev main_c_3 : Ref sig .tc := ⟨.hbm, 29, rfl⟩
abbrev main_c_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1664 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x26 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "eps" => some ((1 / 1000000 : ℝ) : EReal)
  | "log_eps" => some ((Real.log (1 / 1000000) : ℝ) : EReal)
  | "log_one_minus_eps" => some ((Real.log (999999 / 1000000) : ℝ) : EReal)
  | "one_minus_eps" => some ((999999 / 1000000 : ℝ) : EReal)
  | _ => none
-- ==== ReferenceIdeal.lean ====
abbrev S4096x1024 : Shape := ⟨2, ![4096, 1024]⟩
abbrev S4096x26 : Shape := ⟨2, ![4096, 26]⟩
abbrev S26x1088x64 : Shape := ⟨3, ![26, 1088, 64]⟩
abbrev S26x64 : Shape := ⟨2, ![26, 64]⟩
abbrev S_ : Shape := ⟨0, ![]⟩
abbrev S4096x26x1 : Shape := ⟨3, ![4096, 26, 1]⟩
abbrev S1x1x64 : Shape := ⟨3, ![1, 1, 64]⟩
abbrev S4096x26x64 : Shape := ⟨3, ![4096, 26, 64]⟩
abbrev S1x4096x1024 : Shape := ⟨3, ![1, 4096, 1024]⟩
abbrev S26x4096x1024 : Shape := ⟨3, ![26, 4096, 1024]⟩
abbrev S26x4096x64 : Shape := ⟨3, ![26, 4096, 64]⟩
abbrev S26x4096x1088 : Shape := ⟨3, ![26, 4096, 1088]⟩
abbrev S26x1x64 : Shape := ⟨3, ![26, 1, 64]⟩
abbrev S26x4096 : Shape := ⟨2, ![26, 4096]⟩
abbrev S26x4096x1 : Shape := ⟨3, ![26, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x26, .i32⟩
  | .hbm, ⟨2, _⟩ => ⟨S26x1088x64, .f32⟩
  | .hbm, ⟨3, _⟩ => ⟨S26x64, .f32⟩
  | .hbm, ⟨4, _⟩ => ⟨S_, .i32⟩
  | .hbm, ⟨5, _⟩ => ⟨S4096x26x1, .i32⟩
  | .hbm, ⟨6, _⟩ => ⟨S1x1x64, .i32⟩
  | .hbm, ⟨7, _⟩ => ⟨S4096x26x64, .i32⟩
  | .hbm, ⟨8, _⟩ => ⟨S4096x26x64, .i32⟩
  | .hbm, ⟨9, _⟩ => ⟨S4096x26x64, .i1⟩
  | .hbm, ⟨10, _⟩ => ⟨S4096x26x64, .f32⟩
  | .hbm, ⟨11, _⟩ => ⟨S1x4096x1024, .f32⟩
  | .hbm, ⟨12, _⟩ => ⟨S26x4096x1024, .f32⟩
  | .hbm, ⟨13, _⟩ => ⟨S26x4096x64, .f32⟩
  | .hbm, ⟨14, _⟩ => ⟨S26x4096x1088, .f32⟩
  | .hbm, ⟨15, _⟩ => ⟨S26x4096x64, .f32⟩
  | .hbm, ⟨16, _⟩ => ⟨S26x1x64, .f32⟩
  | .hbm, ⟨17, _⟩ => ⟨S26x4096x64, .f32⟩
  | .hbm, ⟨18, _⟩ => ⟨S26x4096x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S26x4096, .f32⟩
  | .hbm, ⟨24, _⟩ => ⟨S_, .f32⟩
  | .hbm, ⟨25, _⟩ => ⟨S26x4096, .f32⟩
  | .hbm, ⟨26, _⟩ => ⟨S26x4096, .f32⟩
  | .hbm, ⟨27, _⟩ => ⟨S26x4096x1, .f32⟩
  | .hbm, ⟨28, _⟩ => ⟨S26x4096x64, .f32⟩
  | .hbm, ⟨29, _⟩ => ⟨S26x4096x64, .f32⟩
  | .hbm, ⟨30, _⟩ => ⟨S26x4096x64, .f32⟩
  | .hbm, ⟨31, _⟩ => ⟨S_, .f32⟩
  | .hbm, ⟨32, _⟩ => ⟨S26x4096, .f32⟩
  | .hbm, ⟨33, _⟩ => ⟨S26x4096x1, .f32⟩
  | .hbm, ⟨34, _⟩ => ⟨S26x4096x64, .f32⟩
  | .hbm, ⟨35, _⟩ => ⟨S26x4096x64, .f32⟩
  | .hbm, ⟨36, _⟩ => ⟨S_, .f32⟩
  | .hbm, ⟨37, _⟩ => ⟨S_, .f32⟩
  | .hbm, ⟨38, _⟩ => ⟨S26x4096x64, .f32⟩
  | .hbm, ⟨39, _⟩ => ⟨S26x4096x64, .f32⟩
  | .hbm, ⟨40, _⟩ => ⟨S26x4096x64, .f32⟩
  | .hbm, ⟨41, _⟩ => ⟨S26x4096x64, .f32⟩
  | .hbm, ⟨42, _⟩ => ⟨S26x4096x64, .i32⟩
  | .hbm, ⟨43, _⟩ => ⟨S_, .f32⟩
  | .hbm, ⟨44, _⟩ => ⟨S_, .i32⟩
  | .hbm, ⟨45, _⟩ => ⟨S26x4096, .f32⟩
  | .hbm, ⟨46, _⟩ => ⟨S26x4096, .i32⟩
  | .hbm, ⟨47, _⟩ => ⟨S4096x26, .i32⟩
  | .hbm, ⟨48, _⟩ => ⟨S26x4096x64, .f32⟩
  | .hbm, ⟨49, _⟩ => ⟨S26x4096x64, .f32⟩
  | .hbm, ⟨50, _⟩ => ⟨S26x4096x64, .f32⟩
  | .hbm, ⟨51, _⟩ => ⟨S_, .f32⟩
  | .hbm, ⟨52, _⟩ => ⟨S_, .f32⟩
  | .hbm, ⟨53, _⟩ => ⟨S_, .i32⟩
  | .hbm, ⟨54, _⟩ => ⟨S_, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v22 : Ref sig .tc := ⟨.hbm, 41, rfl⟩
abbrev main_call2_v0 : Ref sig .tc := ⟨.hbm, 42, rfl⟩
abbrev main_call2_cst : Ref sig .tc := ⟨.hbm, 43, rfl⟩
abbrev main_call2_c : Ref sig .tc := ⟨.hbm, 44, rfl⟩
abbrev main_call2_v1_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_c : Ref sig .tc := ⟨.hbm, 53, rfl⟩
abbrev main_c_6 : Ref sig .tc := ⟨.hbm, 54, rfl⟩

abbrev nD : Nat := 1
abbrev τ : Topo := Topo.v7x

variable {F : FTy → Type} [FloatOps F]
-- ==== Proof.Host.lean ====
/-
  The arrays the host hands the kernel, read at an index: the features' weights with the items' columns side by side,
  the 13 block-diagonal pairs of one-hot weights, and the biases in a row.
-/
module

public import proofs.«01_k».proof.Proof.Gen.KernelIdeal.Frame
public import Idealize.ShloMosaic.Lib.Pipeline.Value
public import Idealize.ShloMosaic.Lib.Routing.OpsSet
public import Idealize.ShloMosaic.Lib.Routing.OpsPair

@[expose] public section

noncomputable section

namespace Cert.Host

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The features' weights, item by item along the columns. -/
def wtop (W : S26x1088x64.Idx → F .f32) : S1024x1664.Idx → F .f32 :=
  extractStridedSlice S1024x1664 ![0, 0] (shapeCast S1088x1664 (transpose S1088x26x64 [1, 0, 2] W transposes_S26x1088x64_S1088x26x64_1_0_2) shapeCasts_S1088x26x64_S1088x1664) slices_S1088x1664_S1024x1664_0_0

/-- The one-hot weights. -/
def wbot (W : S26x1088x64.Idx → F .f32) : S26x64x64.Idx → F .f32 :=
  extractStridedSlice S26x64x64 ![0, 1024, 0] W slices_S26x1088x64_S26x64x64_0_1024_0

/-- The two start words of a corner. -/
def corner (w : BitVec 32) : IVec S2 32 :=
  concatenate S2 0 [⟨S1, broadcastInDim S1 ![] bcast_S_S1 (constantI S_ 32 w)⟩, ⟨S1, broadcastInDim S1 ![] bcast_S_S1 (constantI S_ 32 w)⟩] concatenates_S1_S1_S2_d0

/-- The zero table. -/
def zeros : S13x128x128.Idx → F .f32 := broadcastInDim S13x128x128 ![] bcast_S_S13x128x128 (constant S_ .f32 0x00000000#32)

/-- Even items in the upper left corners. -/
def upper (W : S26x1088x64.Idx → F .f32) : S13x128x128.Idx → F .f32 :=
  Host.scatter scatter_S13x128x128_S2_S13x64x64_012_n_12_0 (fun _ b => b) zeros (corner 0#32)
    (Host.slice S13x64x64 ![0, 0, 0] ![2, 1, 1] (wbot W) slicesBy_S26x64x64_S13x64x64_0s2_0s1_0s1)

/-- And odd items in the lower right ones. -/
def wbd (W : S26x1088x64.Idx → F .f32) : S13x128x128.Idx → F .f32 :=
  Host.scatter scatter_S13x128x128_S2_S13x64x64_012_n_12_0 (fun _ b => b) (upper W) (corner 64#32)
    (Host.slice S13x64x64 ![1, 0, 0] ![2, 1, 1] (wbot W) slicesBy_S26x64x64_S13x64x64_1s2_0s1_0s1)

/-- The biases in a row. -/
def bias (b : S26x64.Idx → F .f32) : S1x1664.Idx → F .f32 := shapeCast S1x1664 b shapeCasts_S26x64_S1x1664

theorem V_wtop (c : Dev nD) : V m c main_v2 = wtop (m ((c : Thread nD τ).loc main_arg2)) := by
  simp only [V, V0, hostOps0, List.flatten_cons, List.flatten_nil, List.append_nil]
  after_results_simp <;> rfl

theorem V_wbd (c : Dev nD) : V m c main_v14 = wbd (m ((c : Thread nD τ).loc main_arg2)) := by
  simp only [V, V0, hostOps0, List.flatten_cons, List.flatten_nil, List.append_nil]
  after_results_simp <;> rfl

theorem V_bias (c : Dev nD) : V m c main_v15 = bias (m ((c : Thread nD τ).loc main_arg3)) := by
  simp only [V, V0, hostOps0, List.flatten_cons, List.flatten_nil, List.append_nil]
  after_results_simp <;> rfl

end Cert.Host
-- ==== Proof.RefRun.lean ====
/-
  The reference program run as the list of its host operations, and the values it computes, read at an index.
  `logits` is the sum of products plus the bias; `probs` the clipped softmax of a table of logits; `argTable` the first
  index of the largest clipped probability; `entropy` the sum of `-p * log p`.
-/
module

public import proofs.«01_k».proof.Proof.Gen.ReferenceIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The join of the features and the one-hot rows, as a function of two plain arguments. -/
def fn_main_v4 : (⟨S26x4096x1024, .f32⟩ : BufTy).Contents (Elt F) → (⟨S26x4096x64, .f32⟩ : BufTy).Contents (Elt F) → (⟨S26x4096x1088, .f32⟩ : BufTy).Contents (Elt F) :=
  (fun a b => concatenate S26x4096x1088 2 [⟨S26x4096x1024, a⟩, ⟨S26x4096x64, b⟩] concatenates_S26x4096x1024_S26x4096x64_S26x4096x1088_d2)

/-- The program's operations, in order. -/
abbrev ops : List (HloOp τ sig (Elt F)) :=
  [ TRef.unary (TRef.of (T := ⟨S4096x26, .i32⟩) main_arg1) (TRef.of (T := ⟨S4096x26x1, .i32⟩) main_call0_v0) (broadcastInDim S4096x26x1 ![0, 1] bcast_S4096x26_S4096x26x1_0_1),
    TRef.nullary (TRef.of (T := ⟨S1x1x64, .i32⟩) main_call0_v1) (iotaInDim S1x1x64 32 2),
    TRef.unary (TRef.of (T := ⟨S4096x26x1, .i32⟩) main_call0_v0) (TRef.of (T := ⟨S4096x26x64, .i32⟩) main_call0_v2) (broadcastInDim S4096x26x64 ![0, 1, 2] bcast_S4096x26x1_S4096x26x64_0_1_2),
    TRef.unary (TRef.of (T := ⟨S1x1x64, .i32⟩) main_call0_v1) (TRef.of (T := ⟨S4096x26x64, .i32⟩) main_call0_v3) (broadcastInDim S4096x26x64 ![0, 1, 2] bcast_S1x1x64_S4096x26x64_0_1_2),
    TRef.binary (TRef.of (T := ⟨S4096x26x64, .i32⟩) main_call0_v2) (TRef.of (T := ⟨S4096x26x64, .i32⟩) main_call0_v3) (TRef.of (T := ⟨S4096x26x64, .i1⟩) main_call0_v4) (cmpi .eq),
    TRef.unary (TRef.of (T := ⟨S4096x26x64, .i1⟩) main_call0_v4) (TRef.of (T := ⟨S4096x26x64, .f32⟩) main_v0) (uitofp .f32),
    unary main_arg0 main_v1 (broadcastInDim S1x4096x1024 ![1, 2] bcast_S4096x1024_S1x4096x1024_1_2 : (⟨S4096x1024, .f32⟩ : BufTy).Contents (Elt F) → (⟨S1x4096x1024, .f32⟩ : BufTy).Contents (Elt F)),
    unary main_v1 main_v2 (broadcastInDim S26x4096x1024 ![0, 1, 2] bcast_S1x4096x1024_S26x4096x1024_0_1_2 : (⟨S1x4096x1024, .f32⟩ : BufTy).Contents (Elt F) → (⟨S26x4096x1024, .f32⟩ : BufTy).Contents (Elt F)),
    unary main_v0 main_v3 ((transpose S26x4096x64 [1, 0, 2] · transposes_S4096x26x64_S26x4096x64_1_0_2) : (⟨S4096x26x64, .f32⟩ : BufTy).Contents (Elt F) → (⟨S26x4096x64, .f32⟩ : BufTy).Contents (Elt F)),
    binary main_v2 main_v3 main_v4 (fn_main_v4 (F := F)),
    binary main_v4 main_arg2 main_v5 ((fun l r => Host.dotGeneral dot_S26x4096x1088_S26x1088x64_S26x4096x64_2_1_1_2_0_0 none l r) : (⟨S26x4096x1088, .f32⟩ : BufTy).Contents (Elt F) → (⟨S26x1088x64, .f32⟩ : BufTy).Contents (Elt F) → (⟨S26x4096x64, .f32⟩ : BufTy).Contents (Elt F)),
    unary main_arg3 main_v6 (broadcastInDim S26x1x64 ![0, 2] bcast_S26x64_S26x1x64_0_2 : (⟨S26x64, .f32⟩ : BufTy).Contents (Elt F) → (⟨S26x1x64, .f32⟩ : BufTy).Contents (Elt F)),
    unary main_v6 main_v7 (broadcastInDim S26x4096x64 ![0, 1, 2] bcast_S26x1x64_S26x4096x64_0_1_2 : (⟨S26x1x64, .f32⟩ : BufTy).Contents (Elt F) → (⟨S26x4096x64, .f32⟩ : BufTy).Contents (Elt F)),
    binary main_v5 main_v7 main_v8 (addf : (⟨S26x4096x64, .f32⟩ : BufTy).Contents (Elt F) → (⟨S26x4096x64, .f32⟩ : BufTy).Contents (Elt F) → (⟨S26x4096x64, .f32⟩ : BufTy).Contents (Elt F)),
    nullary main_cst (constant S_ .f32 0x3F800000#32),
    nullary main_cst_0 (constant S_ .f32 0x49742400#32),
    binary main_cst main_cst_0 main_v9 (Host.divf : (⟨S_, .f32⟩ : BufTy).Contents (Elt F) → (⟨S_, .f32⟩ : BufTy).Contents (Elt F) → (⟨S_, .f32⟩ : BufTy).Contents (Elt F)),
    nullary main_cst_1 (constant S_ .f32 0xFF800000#32),
    binary main_v8 main_cst_1 main_v10 ((fun x v => Host.reduce FloatOps.maximumf x v reducesTo_S26x4096x64_S26x4096_d2 h_S_) : (⟨S26x4096x64, .f32⟩ : BufTy).Contents (Elt F) → (⟨S_, .f32⟩ : BufTy).Contents (Elt F) → (⟨S26x4096, .f32⟩ : BufTy).Contents (Elt F)),
    nullary main_cst_2 (constant S_ .f32 0xFF800000#32),
    unary main_cst_2 main_v11 (broadcastInDim S26x4096 ![] bcast_S_S26x4096 : (⟨S_, .f32⟩ : BufTy).Contents (Elt F) → (⟨S26x4096, .f32⟩ : BufTy).Contents (Elt F)),
    binary main_v11 main_v10 main_v12 (maximumf : (⟨S26x4096, .f32⟩ : BufTy).Contents (Elt F) → (⟨S26x4096, .f32⟩ : BufTy).Contents (Elt F) → (⟨S26x4096, .f32⟩ : BufTy).Contents (Elt F)),
    unary main_v12 main_v13 (broadcastInDim S26x4096x1 ![0, 1] bcast_S26x4096_S26x4096x1_0_1 : (⟨S26x4096, .f32⟩ : BufTy).Contents (Elt F) → (⟨S26x4096x1, .f32⟩ : BufTy).Contents (Elt F)),
    unary main_v13 main_v14 (broadcastInDim S26x4096x64 ![0, 1, 2] bcast_S26x4096x1_S26x4096x64_0_1_2 : (⟨S26x4096x1, .f32⟩ : BufTy).Contents (Elt F) → (⟨S26x4096x64, .f32⟩ : BufTy).Contents (Elt F)),
    binary main_v8 main_v14 main_v15 (subf : (⟨S26x4096x64, .f32⟩ : BufTy).Contents (Elt F) → (⟨S26x4096x64, .f32⟩ : BufTy).Contents (Elt F) → (⟨S26x4096x64, .f32⟩ : BufTy).Contents (Elt F)),
    unary main_v15 main_v16 (Host.exp : (⟨S26x4096x64, .f32⟩ : BufTy).Contents (Elt F) → (⟨S26x4096x64, .f32⟩ : BufTy).Contents (Elt F)),
    nullary main_cst_3 (constant S_ .f32 0x00000000#32),
    binary main_v16 main_cst_3 main_v17 ((fun x v => Host.reduceAdd x v reducesTo_S26x4096x64_S26x4096_d2 h_S_) : (⟨S26x4096x64, .f32⟩ : BufTy).Contents (Elt F) → (⟨S_, .f32⟩ : BufTy).Contents (Elt F) → (⟨S26x4096, .f32⟩ : BufTy).Contents (Elt F)),
    unary main_v17 main_v18 (broadcastInDim S26x4096x1 ![0, 1] bcast_S26x4096_S26x4096x1_0_1 : (⟨S26x4096, .f32⟩ : BufTy).Contents (Elt F) → (⟨S26x4096x1, .f32⟩ : BufTy).Contents (Elt F)),
    unary main_v18 main_v19 (broadcastInDim S26x4096x64 ![0, 1, 2] bcast_S26x4096x1_S26x4096x64_0_1_2 : (⟨S26x4096x1, .f32⟩ : BufTy).Contents (Elt F) → (⟨S26x4096x64, .f32⟩ : BufTy).Contents (Elt F)),
    binary main_v16 main_v19 main_v20 (Host.divf : (⟨S26x4096x64, .f32⟩ : BufTy).Contents (Elt F) → (⟨S26x4096x64, .f32⟩ : BufTy).Contents (Elt F) → (⟨S26x4096x64, .f32⟩ : BufTy).Contents (Elt F)),
    nullary main_cst_4 (constant S_ .f32 0x3F800000#32),
    binary main_cst_4 main_v9 main_v21 (subf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v9) (TRef.of (T := ⟨S26x4096x64, .f32⟩) main_call1_v0) (broadcastInDim S26x4096x64 ![] bcast_S_S26x4096x64),
    TRef.binary (TRef.of (T := ⟨S26x4096x64, .f32⟩) main_call1_v0) (TRef.of (T := ⟨S26x4096x64, .f32⟩) main_v20) (TRef.of (T := ⟨S26x4096x64, .f32⟩) main_call1_v1) maximumf,
    TRef.unary (TRef.of (T := ⟨S_, .f32⟩) main_v21) (TRef.of (T := ⟨S26x4096x64, .f32⟩) main_call1_v2) (broadcastInDim S26x4096x64 ![] bcast_S_S26x4096x64),
    TRef.binary (TRef.of (T := ⟨S26x4096x64, .f32⟩) main_call1_v2) (TRef.of (T := ⟨S26x4096x64, .f32⟩) main_call1_v1) (TRef.of (T := ⟨S26x4096x64, .f32⟩) main_v22) minimumf,
    TRef.nullary (TRef.of (T := ⟨S26x4096x64, .i32⟩) main_call2_v0) (iotaInDim S26x4096x64 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S26x4096x64, .f32⟩) main_v22) (TRef.of (T := ⟨S26x4096x64, .i32⟩) main_call2_v0) (TRef.of (T := ⟨S_, .f32⟩) main_call2_cst) (TRef.of (T := ⟨S_, .i32⟩) main_call2_c) (TRef.of (T := ⟨S26x4096, .f32⟩) main_call2_v1_0) (fun x y u v j => (Host.argReduce reducer_argmax_f32_i32 x y u v reducesTo_S26x4096x64_S26x4096_d2 h_S_ j).1),
    TRef.quaternary (TRef.of (T := ⟨S26x4096x64, .f32⟩) main_v22) (TRef.of (T := ⟨S26x4096x64, .i32⟩) main_call2_v0) (TRef.of (T := ⟨S_, .f32⟩) main_call2_cst) (TRef.of (T := ⟨S_, .i32⟩) main_call2_c) (TRef.of (T := ⟨S26x4096, .i32⟩) main_v23) (fun x y u v j => (Host.argReduce reducer_argmax_f32_i32 x y u v reducesTo_S26x4096x64_S26x4096_d2 h_S_ j).2),
    unary main_v23 main_v24 ((transpose S4096x26 [1, 0] · transposes_S26x4096_S4096x26_1_0) : (⟨S26x4096, .i32⟩ : BufTy).Contents (Elt F) → (⟨S4096x26, .i32⟩ : BufTy).Contents (Elt F)),
    unary main_v22 main_v25 (Host.negf : (⟨S26x4096x64, .f32⟩ : BufTy).Contents (Elt F) → (⟨S26x4096x64, .f32⟩ : BufTy).Contents (Elt F)),
    unary main_v22 main_v26 (Host.log : (⟨S26x4096x64, .f32⟩ : BufTy).Contents (Elt F) → (⟨S26x4096x64, .f32⟩ : BufTy).Contents (Elt F)),
    binary main_v25 main_v26 main_v27 (mulf : (⟨S26x4096x64, .f32⟩ : BufTy).Contents (Elt F) → (⟨S26x4096x64, .f32⟩ : BufTy).Contents (Elt F) → (⟨S26x4096x64, .f32⟩ : BufTy).Contents (Elt F)),
    nullary main_cst_5 (constant S_ .f32 0x00000000#32),
    binary main_v27 main_cst_5 main_v28 ((fun x v => Host.reduceAdd x v reducesTo_S26x4096x64_S_d0_1_2 h_S_) : (⟨S26x4096x64, .f32⟩ : BufTy).Contents (Elt F) → (⟨S_, .f32⟩ : BufTy).Contents (Elt F) → (⟨S_, .f32⟩ : BufTy).Contents (Elt F)),
    nullary main_c (constantI S_ 32 106496#32),
    nullary main_c_6 (constantI S_ 32 106496#32) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub .., unary_bufs_sub .., unary_bufs_sub .., unary_bufs_sub .., binary_bufs_sub .., nullary_bufs_sub .., binary_bufs_sub .., nullary_bufs_sub .., nullary_bufs_sub ..⟩

/-! ## The stages up to the logits -/

def hot_v0 (x1 : (⟨S4096x26, .i32⟩ : BufTy).Contents (Elt F)) : (⟨S4096x26x1, .i32⟩ : BufTy).Contents (Elt F) :=
  broadcastInDim S4096x26x1 ![0, 1] bcast_S4096x26_S4096x26x1_0_1 (x1)
abbrev idx_hot_v0 (i : S4096x26x1.Idx) : S4096x26.Idx := fun a => match a with
  | ⟨0, _⟩ => ⟨(i 0).val, (i 0).isLt⟩
  | ⟨1, _⟩ => ⟨(i 1).val, (i 1).isLt⟩
theorem hot_v0_apply (x1 : (⟨S4096x26, .i32⟩ : BufTy).Contents (Elt F)) (i : S4096x26x1.Idx) :
    hot_v0 (F := F) x1 i = x1 (idx_hot_v0 i) := by
  unfold hot_v0
  exact broadcastInDim_apply _ bcast_S4096x26_S4096x26x1_0_1 x1 i (idx_hot_v0 i) (fun a => match a with
    | ⟨0, _⟩ => by show (i 0).val = if (4096 : Nat) = 1 then 0 else (i 0).val; rw [if_neg (by decide)]
    | ⟨1, _⟩ => by show (i 1).val = if (26 : Nat) = 1 then 0 else (i 1).val; rw [if_neg (by decide)])

def hot_v1 : (⟨S1x1x64, .i32⟩ : BufTy).Contents (Elt F) :=
  iotaInDim S1x1x64 32 2
theorem hot_v1_apply (i : S1x1x64.Idx) :
    hot_v1 (F := F) i = BitVec.ofNat 32 (i 2).val := rfl

def hot_v2 (x1 : (⟨S4096x26, .i32⟩ : BufTy).Contents (Elt F)) : (⟨S4096x26x64, .i32⟩ : BufTy).Contents (Elt F) :=
  broadcastInDim S4096x26x64 ![0, 1, 2] bcast_S4096x26x1_S4096x26x64_0_1_2 (hot_v0 (F := F) x1)
abbrev idx_hot_v2 (i : S4096x26x64.Idx) : S4096x26x1.Idx := fun a => match a with
  | ⟨0, _⟩ => ⟨(i 0).val, (i 0).isLt⟩
  | ⟨1, _⟩ => ⟨(i 1).val, (i 1).isLt⟩
  | ⟨2, _⟩ => ⟨0, Nat.one_pos⟩
theorem hot_v2_apply (x1 : (⟨S4096x26, .i32⟩ : BufTy).Contents (Elt F)) (i : S4096x26x64.Idx) :
    hot_v2 (F := F) x1 i = hot_v0 (F := F) x1 (idx_hot_v2 i) := by
  unfold hot_v2
  generalize hot_v0 (F := F) x1 = y
  exact broadcastInDim_apply _ bcast_S4096x26x1_S4096x26x64_0_1_2 y i (idx_hot_v2 i) (fun a => match a with
    | ⟨0, _⟩ => by show (i 0).val = if (4096 : Nat) = 1 then 0 else (i 0).val; rw [if_neg (by decide)]
    | ⟨1, _⟩ => by show (i 1).val = if (26 : Nat) = 1 then 0 else (i 1).val; rw [if_neg (by decide)]
    | ⟨2, _⟩ => by show 0 = if (1 : Nat) = 1 then 0 else (i 2).val; rw [if_pos rfl])

def hot_v3 : (⟨S4096x26x64, .i32⟩ : BufTy).Contents (Elt F) :=
  broadcastInDim S4096x26x64 ![0, 1, 2] bcast_S1x1x64_S4096x26x64_0_1_2 (hot_v1 (F := F))
abbrev idx_hot_v3 (i : S4096x26x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩
theorem hot_v3_apply (i : S4096x26x64.Idx) :
    hot_v3 (F := F) i = hot_v1 (F := F) (idx_hot_v3 i) := by
  unfold hot_v3
  generalize hot_v1 (F := F) = y
  exact broadcastInDim_apply _ bcast_S1x1x64_S4096x26x64_0_1_2 y i (idx_hot_v3 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

def hot_v4 (x1 : (⟨S4096x26, .i32⟩ : BufTy).Contents (Elt F)) : (⟨S4096x26x64, .i1⟩ : BufTy).Contents (Elt F) :=
  cmpi .eq (hot_v2 (F := F) x1) (hot_v3 (F := F))
theorem hot_v4_apply (x1 : (⟨S4096x26, .i32⟩ : BufTy).Contents (Elt F)) (i : S4096x26x64.Idx) :
    hot_v4 (F := F) x1 i = IntOp.cmpi .eq (hot_v2 (F := F) x1 i) (hot_v3 (F := F) i) := rfl

def st_v0 (x1 : (⟨S4096x26, .i32⟩ : BufTy).Contents (Elt F)) : (⟨S4096x26x64, .f32⟩ : BufTy).Contents (Elt F) :=
  uitofp .f32 (hot_v4 (F := F) x1)
theorem st_v0_apply (x1 : (⟨S4096x26, .i32⟩ : BufTy).Contents (Elt F)) (i : S4096x26x64.Idx) :
    st_v0 (F := F) x1 i = FloatOps.uitofp .f32 (hot_v4 (F := F) x1 i) := rfl

def st_v1 (x0 : (⟨S4096x1024, .f32⟩ : BufTy).Contents (Elt F)) : (⟨S1x4096x1024, .f32⟩ : BufTy).Contents (Elt F) :=
  broadcastInDim S1x4096x1024 ![1, 2] bcast_S4096x1024_S1x4096x1024_1_2 (x0)
abbrev ix_v1 (i : S1x4096x1024.Idx) : S4096x1024.Idx := fun a => match a with
  | ⟨0, _⟩ => ⟨(i 1).val, (i 1).isLt⟩
  | ⟨1, _⟩ => ⟨(i 2).val, (i 2).isLt⟩
theorem st_v1_apply (x0 : (⟨S4096x1024, .f32⟩ : BufTy).Contents (Elt F)) (i : S1x4096x1024.Idx) :
    st_v1 (F := F) x0 i = x0 (ix_v1 i) := by
  unfold st_v1
  exact broadcastInDim_apply _ bcast_S4096x1024_S1x4096x1024_1_2 x0 i (ix_v1 i) (fun a => match a with
    | ⟨0, _⟩ => by show (i 1).val = if (4096 : Nat) = 1 then 0 else (i 1).val; rw [if_neg (by decide)]
    | ⟨1, _⟩ => by show (i 2).val = if (1024 : Nat) = 1 then 0 else (i 2).val; rw [if_neg (by decide)])

def st_v2 (x0 : (⟨S4096x1024, .f32⟩ : BufTy).Contents (Elt F)) : (⟨S26x4096x1024, .f32⟩ : BufTy).Contents (Elt F) :=
  broadcastInDim S26x4096x1024 ![0, 1, 2] bcast_S1x4096x1024_S26x4096x1024_0_1_2 (st_v1 (F := F) x0)
abbrev ix_v2 (i : S26x4096x1024.Idx) : S1x4096x1024.Idx := fun a => match a with
  | ⟨0, _⟩ => ⟨0, Nat.one_pos⟩
  | ⟨1, _⟩ => ⟨(i 1).val, (i 1).isLt⟩
  | ⟨2, _⟩ => ⟨(i 2).val, (i 2).isLt⟩
theorem st_v2_apply (x0 : (⟨S4096x1024, .f32⟩ : BufTy).Contents (Elt F)) (i : S26x4096x1024.Idx) :
    st_v2 (F := F) x0 i = st_v1 (F := F) x0 (ix_v2 i) := by
  unfold st_v2
  generalize st_v1 (F := F) x0 = y
  exact broadcastInDim_apply _ bcast_S1x4096x1024_S26x4096x1024_0_1_2 y i (ix_v2 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)]
    | ⟨2, _⟩ => by show (i 2).val = if (1024 : Nat) = 1 then 0 else (i 2).val; rw [if_neg (by decide)])

def st_v3 (x1 : (⟨S4096x26, .i32⟩ : BufTy).Contents (Elt F)) : (⟨S26x4096x64, .f32⟩ : BufTy).Contents (Elt F) :=
  transpose S26x4096x64 [1, 0, 2] (st_v0 (F := F) x1) transposes_S4096x26x64_S26x4096x64_1_0_2
abbrev ix_v3 (i : S26x4096x64.Idx) : S4096x26x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem st_v3_apply (x1 : (⟨S4096x26, .i32⟩ : BufTy).Contents (Elt F)) (i : S26x4096x64.Idx) :
    st_v3 (F := F) x1 i = st_v0 (F := F) x1 (ix_v3 i) := by
  unfold st_v3
  generalize st_v0 (F := F) x1 = y
  exact transpose_apply [1, 0, 2] y transposes_S4096x26x64_S26x4096x64_1_0_2 i (ix_v3 i) (fun b => match b with
    | ⟨0, _⟩ => rfl
    | ⟨1, _⟩ => rfl
    | ⟨2, _⟩ => rfl)

def st_v4 (x0 : (⟨S4096x1024, .f32⟩ : BufTy).Contents (Elt F)) (x1 : (⟨S4096x26, .i32⟩ : BufTy).Contents (Elt F)) : (⟨S26x4096x1088, .f32⟩ : BufTy).Contents (Elt F) :=
  concatenate S26x4096x1088 2 [⟨S26x4096x1024, (st_v2 (F := F) x0)⟩, ⟨S26x4096x64, (st_v3 (F := F) x1)⟩] concatenates_S26x4096x1024_S26x4096x64_S26x4096x1088_d2

def st_v5 (x0 : (⟨S4096x1024, .f32⟩ : BufTy).Contents (Elt F)) (x1 : (⟨S4096x26, .i32⟩ : BufTy).Contents (Elt F)) (x2 : (⟨S26x1088x64, .f32⟩ : BufTy).Contents (Elt F)) : (⟨S26x4096x64, .f32⟩ : BufTy).Contents (Elt F) :=
  Host.dotGeneral dot_S26x4096x1088_S26x1088x64_S26x4096x64_2_1_1_2_0_0 none (st_v4 (F := F) x0 x1) (x2)
theorem lhs_v5_0 (i : S26x4096x64.Idx) (q : dot_S26x4096x1088_S26x1088x64_S26x4096x64_2_1_1_2_0_0.contr.Idx) :
    (dot_S26x4096x1088_S26x1088x64_S26x4096x64_2_1_1_2_0_0.lhsIdx i q 0).val = (i 0).val := by
  unfold DotDims.lhsIdx
  rw [dif_pos (show (0 : Fin S26x4096x1088.rank) ∈ dot_S26x4096x1088_S26x1088x64_S26x4096x64_2_1_1_2_0_0.lhsBatch by decide)]
  rfl
theorem lhs_v5_1 (i : S26x4096x64.Idx) (q : dot_S26x4096x1088_S26x1088x64_S26x4096x64_2_1_1_2_0_0.contr.Idx) :
    (dot_S26x4096x1088_S26x1088x64_S26x4096x64_2_1_1_2_0_0.lhsIdx i q 1).val = (i 1).val := by
  unfold DotDims.lhsIdx
  rw [dif_neg (show ¬(1 : Fin S26x4096x1088.rank) ∈ dot_S26x4096x1088_S26x1088x64_S26x4096x64_2_1_1_2_0_0.lhsBatch by decide), dif_pos (show (1 : Fin S26x4096x1088.rank) ∈ dot_S26x4096x1088_S26x1088x64_S26x4096x64_2_1_1_2_0_0.lhsNonContracting by decide)]
  rfl
theorem lhs_v5_2 (i : S26x4096x64.Idx) (q : dot_S26x4096x1088_S26x1088x64_S26x4096x64_2_1_1_2_0_0.contr.Idx) :
    (dot_S26x4096x1088_S26x1088x64_S26x4096x64_2_1_1_2_0_0.lhsIdx i q 2).val = (q ⟨0, by decide⟩).val :=
  dot_S26x4096x1088_S26x1088x64_S26x4096x64_2_1_1_2_0_0.lhsIdx_val_of_single rfl i q
theorem rhs_v5_0 (i : S26x4096x64.Idx) (q : dot_S26x4096x1088_S26x1088x64_S26x4096x64_2_1_1_2_0_0.contr.Idx) :
    (dot_S26x4096x1088_S26x1088x64_S26x4096x64_2_1_1_2_0_0.rhsIdx i q 0).val = (i 0).val := by
  unfold DotDims.rhsIdx
  rw [dif_pos (show (0 : Fin S26x1088x64.rank) ∈ dot_S26x4096x1088_S26x1088x64_S26x4096x64_2_1_1_2_0_0.rhsBatch by decide)]
  rfl
theorem rhs_v5_1 (i : S26x4096x64.Idx) (q : dot_S26x4096x1088_S26x1088x64_S26x4096x64_2_1_1_2_0_0.contr.Idx) :
    (dot_S26x4096x1088_S26x1088x64_S26x4096x64_2_1_1_2_0_0.rhsIdx i q 1).val = (q ⟨0, by decide⟩).val :=
  dot_S26x4096x1088_S26x1088x64_S26x4096x64_2_1_1_2_0_0.rhsIdx_val_of_single rfl i q
theorem rhs_v5_2 (i : S26x4096x64.Idx) (q : dot_S26x4096x1088_S26x1088x64_S26x4096x64_2_1_1_2_0_0.contr.Idx) :
    (dot_S26x4096x1088_S26x1088x64_S26x4096x64_2_1_1_2_0_0.rhsIdx i q 2).val = (i 2).val := by
  unfold DotDims.rhsIdx
  rw [dif_neg (show ¬(2 : Fin S26x1088x64.rank) ∈ dot_S26x4096x1088_S26x1088x64_S26x4096x64_2_1_1_2_0_0.rhsBatch by decide), dif_pos (show (2 : Fin S26x1088x64.rank) ∈ dot_S26x4096x1088_S26x1088x64_S26x4096x64_2_1_1_2_0_0.rhsNonContracting by decide)]
  rfl
abbrev lix_v5 (i : S26x4096x64.Idx) (k : Fin 1088) : S26x4096x1088.Idx := fun a => match a with
  | ⟨0, _⟩ => ⟨(i 0).val, (i 0).isLt⟩
  | ⟨1, _⟩ => ⟨(i 1).val, (i 1).isLt⟩
  | ⟨2, _⟩ => ⟨k.val, k.isLt⟩
abbrev rix_v5 (i : S26x4096x64.Idx) (k : Fin 1088) : S26x1088x64.Idx := fun a => match a with
  | ⟨0, _⟩ => ⟨(i 0).val, (i 0).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem st_v5_apply (x0 : (⟨S4096x1024, .f32⟩ : BufTy).Contents (Elt Ideal)) (x1 : (⟨S4096x26, .i32⟩ : BufTy).Contents (Elt Ideal)) (x2 : (⟨S26x1088x64, .f32⟩ : BufTy).Contents (Elt Ideal)) (i : S26x4096x64.Idx) :
    st_v5 (F := Ideal) x0 x1 x2 i = ∑ k : Fin 1088, (st_v4 (F := Ideal) x0 x1) (lix_v5 i k) * x2 (rix_v5 i k) := by
  unfold st_v5
  generalize st_v4 (F := Ideal) x0 x1 = y0
  simp only [Host.dotGeneral]
  rw [Ideal.dotGeneral_apply, ← Equiv.sum_comp (ValueIdx.contrEquiv1 dot_S26x4096x1088_S26x1088x64_S26x4096x64_2_1_1_2_0_0 1088 rfl rfl).symm]
  refine Finset.sum_congr rfl fun k _ => ?_
  have hk := ValueIdx.contrEquiv1_symm_val dot_S26x4096x1088_S26x1088x64_S26x4096x64_2_1_1_2_0_0 1088 rfl rfl k
  have el : dot_S26x4096x1088_S26x1088x64_S26x4096x64_2_1_1_2_0_0.lhsIdx i ((ValueIdx.contrEquiv1 dot_S26x4096x1088_S26x1088x64_S26x4096x64_2_1_1_2_0_0 1088 rfl rfl).symm k) = lix_v5 i k := funext fun a => Fin.ext (by
    match a with
    | ⟨0, _⟩ => exact lhs_v5_0 _ _
    | ⟨1, _⟩ => exact lhs_v5_1 _ _
    | ⟨2, _⟩ => exact (lhs_v5_2 _ _).trans hk)
  have er : dot_S26x4096x1088_S26x1088x64_S26x4096x64_2_1_1_2_0_0.rhsIdx i ((ValueIdx.contrEquiv1 dot_S26x4096x1088_S26x1088x64_S26x4096x64_2_1_1_2_0_0 1088 rfl rfl).symm k) = rix_v5 i k := funext fun a => Fin.ext (by
    match a with
    | ⟨0, _⟩ => exact rhs_v5_0 _ _
    | ⟨1, _⟩ => exact (rhs_v5_1 _ _).trans hk
    | ⟨2, _⟩ => exact rhs_v5_2 _ _)
  rw [el, er]

def st_v6 (x3 : (⟨S26x64, .f32⟩ : BufTy).Contents (Elt F)) : (⟨S26x1x64, .f32⟩ : BufTy).Contents (Elt F) :=
  broadcastInDim S26x1x64 ![0, 2] bcast_S26x64_S26x1x64_0_2 (x3)
abbrev ix_v6 (i : S26x1x64.Idx) : S26x64.Idx := fun a => match a with
  | ⟨0, _⟩ => ⟨(i 0).val, (i 0).isLt⟩
  | ⟨1, _⟩ => ⟨(i 2).val, (i 2).isLt⟩
theorem st_v6_apply (x3 : (⟨S26x64, .f32⟩ : BufTy).Contents (Elt F)) (i : S26x1x64.Idx) :
    st_v6 (F := F) x3 i = x3 (ix_v6 i) := by
  unfold st_v6
  exact broadcastInDim_apply _ bcast_S26x64_S26x1x64_0_2 x3 i (ix_v6 i) (fun a => match a with
    | ⟨0, _⟩ => by show (i 0).val = if (26 : Nat) = 1 then 0 else (i 0).val; rw [if_neg (by decide)]
    | ⟨1, _⟩ => by show (i 2).val = if (64 : Nat) = 1 then 0 else (i 2).val; rw [if_neg (by decide)])

def st_v7 (x3 : (⟨S26x64, .f32⟩ : BufTy).Contents (Elt F)) : (⟨S26x4096x64, .f32⟩ : BufTy).Contents (Elt F) :=
  broadcastInDim S26x4096x64 ![0, 1, 2] bcast_S26x1x64_S26x4096x64_0_1_2 (st_v6 (F := F) x3)
abbrev ix_v7 (i : S26x4096x64.Idx) : S26x1x64.Idx := fun a => match a with
  | ⟨0, _⟩ => ⟨(i 0).val, (i 0).isLt⟩
  | ⟨1, _⟩ => ⟨0, Nat.one_pos⟩
  | ⟨2, _⟩ => ⟨(i 2).val, (i 2).isLt⟩
theorem st_v7_apply (x3 : (⟨S26x64, .f32⟩ : BufTy).Contents (Elt F)) (i : S26x4096x64.Idx) :
    st_v7 (F := F) x3 i = st_v6 (F := F) x3 (ix_v7 i) := by
  unfold st_v7
  generalize st_v6 (F := F) x3 = y
  exact broadcastInDim_apply _ bcast_S26x1x64_S26x4096x64_0_1_2 y i (ix_v7 i) (fun a => match a with
    | ⟨0, _⟩ => by show (i 0).val = if (26 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)])

def logits (x0 : (⟨S4096x1024, .f32⟩ : BufTy).Contents (Elt F)) (x1 : (⟨S4096x26, .i32⟩ : BufTy).Contents (Elt F)) (x2 : (⟨S26x1088x64, .f32⟩ : BufTy).Contents (Elt F)) (x3 : (⟨S26x64, .f32⟩ : BufTy).Contents (Elt F)) : (⟨S26x4096x64, .f32⟩ : BufTy).Contents (Elt F) :=
  addf (st_v5 (F := F) x0 x1 x2) (st_v7 (F := F) x3)
theorem logits_apply (x0 : (⟨S4096x1024, .f32⟩ : BufTy).Contents (Elt F)) (x1 : (⟨S4096x26, .i32⟩ : BufTy).Contents (Elt F)) (x2 : (⟨S26x1088x64, .f32⟩ : BufTy).Contents (Elt F)) (x3 : (⟨S26x64, .f32⟩ : BufTy).Contents (Elt F)) (i : S26x4096x64.Idx) :
    logits (F := F) x0 x1 x2 x3 i = FloatOps.addf (st_v5 (F := F) x0 x1 x2 i) (st_v7 (F := F) x3 i) := rfl

/-! ## From the logits to the results -/

/-- The small number `1 / 10^6`. -/
def eps : (⟨S_, .f32⟩ : BufTy).Contents (Elt F) := Host.divf (constant S_ .f32 0x3F800000#32) (constant S_ .f32 0x49742400#32)

/-- One minus the small number. -/
def oneMinusEps : (⟨S_, .f32⟩ : BufTy).Contents (Elt F) := subf (constant S_ .f32 0x3F800000#32) eps

/-- The row maximum, spread back over the row. -/
def rowMax (L : (⟨S26x4096x64, .f32⟩ : BufTy).Contents (Elt F)) : (⟨S26x4096x64, .f32⟩ : BufTy).Contents (Elt F) :=
  broadcastInDim S26x4096x64 ![0, 1, 2] bcast_S26x4096x1_S26x4096x64_0_1_2 (broadcastInDim S26x4096x1 ![0, 1] bcast_S26x4096_S26x4096x1_0_1
    (maximumf (broadcastInDim S26x4096 ![] bcast_S_S26x4096 (constant S_ .f32 0xFF800000#32))
      (Host.reduce FloatOps.maximumf L (constant S_ .f32 0xFF800000#32) reducesTo_S26x4096x64_S26x4096_d2 h_S_)))

/-- The exponentials of the logits less their row maximum. -/
def expo (L : (⟨S26x4096x64, .f32⟩ : BufTy).Contents (Elt F)) : (⟨S26x4096x64, .f32⟩ : BufTy).Contents (Elt F) := Host.exp (subf L (rowMax L))

/-- The row sum of a table, spread back over the row. -/
def rowSum (E : (⟨S26x4096x64, .f32⟩ : BufTy).Contents (Elt F)) : (⟨S26x4096x64, .f32⟩ : BufTy).Contents (Elt F) :=
  broadcastInDim S26x4096x64 ![0, 1, 2] bcast_S26x4096x1_S26x4096x64_0_1_2 (broadcastInDim S26x4096x1 ![0, 1] bcast_S26x4096_S26x4096x1_0_1
    (Host.reduceAdd E (constant S_ .f32 0x00000000#32) reducesTo_S26x4096x64_S26x4096_d2 h_S_))

/-- The clipped softmax. -/
def probs (L : (⟨S26x4096x64, .f32⟩ : BufTy).Contents (Elt F)) : (⟨S26x4096x64, .f32⟩ : BufTy).Contents (Elt F) :=
  minimumf (broadcastInDim S26x4096x64 ![] bcast_S_S26x4096x64 oneMinusEps)
    (maximumf (broadcastInDim S26x4096x64 ![] bcast_S_S26x4096x64 eps) (Host.divf (expo L) (rowSum (expo L))))

/-- The second parts of a table of pairs. -/
def second {ι α β : Type} (R : ι → α × β) : ι → β := fun j => (R j).2

theorem second_of {ι α β : Type} (R : ι → α × β) (j : ι) (v : α × β) (h : R j = v) : second R j = v.2 := congrArg Prod.snd h

/-- The index of the largest entry of each row, item by item. -/
def argRows (P : (⟨S26x4096x64, .f32⟩ : BufTy).Contents (Elt F)) : (⟨S26x4096, .i32⟩ : BufTy).Contents (Elt F) :=
  second (Host.argReduce reducer_argmax_f32_i32 P (iotaInDim S26x4096x64 32 2) (constant S_ .f32 0xFF800000#32) (constantI S_ 32 0#32) reducesTo_S26x4096x64_S26x4096_d2 h_S_)

/-- The proposals: the rows' indices, examples first. -/
def argTable (P : (⟨S26x4096x64, .f32⟩ : BufTy).Contents (Elt F)) : (⟨S4096x26, .i32⟩ : BufTy).Contents (Elt F) :=
  transpose S4096x26 [1, 0] (argRows P) transposes_S26x4096_S4096x26_1_0

/-- The entropy of a table of probabilities. -/
def entropy (P : (⟨S26x4096x64, .f32⟩ : BufTy).Contents (Elt F)) : (⟨S_, .f32⟩ : BufTy).Contents (Elt F) :=
  Host.reduceAdd (mulf (Host.negf P) (Host.log P)) (constant S_ .f32 0x00000000#32) reducesTo_S26x4096x64_S_d0_1_2 h_S_

/-- The clipped probabilities of the arguments at launch. -/
def probsOf (m : (ℓ : Loc nD τ sig) → Buf (Elt F) ℓ) (c : Dev nD) : (⟨S26x4096x64, .f32⟩ : BufTy).Contents (Elt F) :=
  probs (logits (m ((c.tc : Thread nD τ).loc main_arg0)) (m ((c.tc : Thread nD τ).loc main_arg1)) (m ((c.tc : Thread nD τ).loc main_arg2)) (m ((c.tc : Thread nD τ).loc main_arg3)))

set_option maxRecDepth 8192 in
set_option maxHeartbeats 2000000 in
/-- Every weakly fair execution ends with each result at its value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = argTable (probsOf m c)
      ∧ r.2.mem ((c.tc : Thread nD τ).loc main_v28) = entropy (probsOf m c)
      ∧ r.2.mem ((c.tc : Thread nD τ).loc main_c) = constantI S_ 32 106496#32
      ∧ r.2.mem ((c.tc : Thread nD τ).loc main_c_6) = constantI S_ 32 106496#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v24).trans (by simp only [ops, TRef.binary, TRef.nullary, TRef.unary, TRef.quaternary, TRef.toBuf, TRef.ofBuf, cast_eq]; after_results_simp <;> rfl),
      (h c main_v28).trans (by simp only [ops, TRef.binary, TRef.nullary, TRef.unary, TRef.quaternary, TRef.toBuf, TRef.ofBuf, cast_eq]; after_results_simp <;> rfl),
      (h c main_c).trans (by simp only [ops, TRef.binary, TRef.nullary, TRef.unary, TRef.quaternary, TRef.toBuf, TRef.ofBuf, cast_eq]; after_results_simp <;> rfl),
      (h c main_c_6).trans (by simp only [ops, TRef.binary, TRef.nullary, TRef.unary, TRef.quaternary, TRef.toBuf, TRef.ofBuf, cast_eq]; after_results_simp <;> rfl),
      (h c main_arg0).trans (by simp only [ops, TRef.binary, TRef.nullary, TRef.unary, TRef.quaternary, TRef.toBuf, TRef.ofBuf, cast_eq]; after_results_simp <;> rfl),
      (h c main_arg1).trans (by simp only [ops, TRef.binary, TRef.nullary, TRef.unary, TRef.quaternary, TRef.toBuf, TRef.ofBuf, cast_eq]; after_results_simp <;> rfl),
      (h c main_arg2).trans (by simp only [ops, TRef.binary, TRef.nullary, TRef.unary, TRef.quaternary, TRef.toBuf, TRef.ofBuf, cast_eq]; after_results_simp <;> rfl),
      (h c main_arg3).trans (by simp only [ops, TRef.binary, TRef.nullary, TRef.unary, TRef.quaternary, TRef.toBuf, TRef.ofBuf, cast_eq]; after_results_simp <;> rfl),
      (h c main_arg4).trans (by simp only [ops, TRef.binary, TRef.nullary, TRef.unary, TRef.quaternary, TRef.toBuf, TRef.ofBuf, cast_eq]; after_results_simp <;> rfl)⟩)
    (run_seq scopedRefs_eq scopedSems_eq defs main (fun _ => ops) main_eq (fun _ => ops_sub) m ρ)

end Cert.RefRun

end
-- ==== Proof.Pair.lean ====
/-
  The kernel's body, as one function of a pair of items. The 13 pairs are unrolled in the program; every one computes
  the same thing of the pair's 128 lanes (lanes 0..63 the first item, 64..127 the second): the logits, their maximum
  per half, the first lane of each half that holds it, and the sum of the clipped `p * log p`.
-/
module

public import proofs.«01_k».proof.Proof.Gen.KernelIdeal.Frame
public import Idealize.ShloMosaic.Lib.Pipeline.Value

@[expose] public section

noncomputable section

namespace Cert.Pair

open Cert.KernelIdeal Cert.KernelIdeal.Gen Idealize.ShloMosaic Idealize.ShloMosaic.TcCoe Idealize.SL.Sem

variable {F : FTy → Type} [FloatOps F] [Named F]

/-! ## One pair of items -/

/-- The lane number. -/
def lanes : IVec S512x128 32 := iota .tc S512x128 32 [1] iota_S512x128_d1_w32

/-- The lanes of the pair's first item. -/
def left : IVec S512x128 1 := k0_pay4

/-- A value per row, at every lane. -/
def spread (u : FVec F S512 .f32) : FVec F S512x128 .f32 :=
  broadcastTo S512x128 (shapeCast S512x1 (shapeCast S512x1 u shapeCasts_S512_S512x1) shapeCasts_S512x1_S512x1) broadcasts_S512x1_S512x128

/-- One value per row for the left half and one for the right. -/
def halves (u v : FVec F S512 .f32) : FVec F S512x128 .f32 := select left (spread u) (spread v)

/-- The maximum of each row's half, at every lane. -/
def peak (a : FVec F S512x128 .f32) : FVec F S512x128 .f32 :=
  halves (multiReduction .maximumf [1] S512 (select left a (broadcast S512x128 (Scalar.ofBits .f32 0xFF800000#32))) 0xFF800000#32 reduces_S512x128_S512 (.inl rfl) rfl)
    (multiReduction .maximumf [1] S512 (select left (broadcast S512x128 (Scalar.ofBits .f32 0xFF800000#32)) a) 0xFF800000#32 reduces_S512x128_S512 (.inl rfl) rfl)

/-- The sum of each row's half, at every lane. -/
def mass (a : FVec F S512x128 .f32) : FVec F S512x128 .f32 :=
  halves (multiReduction .add [1] S512 (select left a (broadcast S512x128 (Scalar.ofBits .f32 0x00000000#32))) 0x00000000#32 reduces_S512x128_S512 (.inl rfl) rfl)
    (multiReduction .add [1] S512 (select left (broadcast S512x128 (Scalar.ofBits .f32 0x00000000#32)) a) 0x00000000#32 reduces_S512x128_S512 (.inl rfl) rfl)

/-- The logits less their half's maximum. -/
def shifted (a : FVec F S512x128 .f32) : FVec F S512x128 .f32 := subf a (peak a)

/-- The clipped probability. -/
def prob (t : FVec F S512x128 .f32) : FVec F S512x128 .f32 :=
  minimumf (broadcast S512x128 (Named.named κ "one_minus_eps" 0x3F7FFFEF#32))
    (maximumf (broadcast S512x128 (Named.named κ "eps" 0x358637BD#32)) (divf (exp t) (mass (exp t))))

/-- The logarithm of the clipped probability, clipped itself. -/
def logp (t : FVec F S512x128 .f32) : FVec F S512x128 .f32 :=
  minimumf (broadcast S512x128 (Named.named κ "log_one_minus_eps" 0xB58637C1#32))
    (maximumf (broadcast S512x128 (Named.named κ "log_eps" 0xC15D0C55#32)) (subf t (log (mass (exp t)))))

/-- The sum of `p * log p` over the block's rows and the pair's lanes. -/
def pairSum (a : FVec F S512x128 .f32) : F .f32 :=
  extractAt ![0, 0, 0] (shapeCast S1x1x1 (multiReduction .add [1, 2] S1 (shapeCast S1x512x128 (mulf (prob (shifted a)) (logp (shifted a))) shapeCasts_S512x128_S1x512x128) 0x00000000#32 reduces_S1x512x128_S1 (.inl rfl) rfl) shapeCasts_S1_S1x1x1) inpos_S1x1x1_p0_0_0

/-- The lanes that hold their half's maximum. -/
def hit (a : FVec F S512x128 .f32) : IVec S512x128 1 :=
  cmpf .oeq (shifted a) (broadcast S512x128 (Scalar.ofBits .f32 0x00000000#32))

/-- The least number of a row among the marked lanes (10000 where none is marked). -/
def least (b : IVec S512x128 1) (l : IVec S512x128 32) : IVec S512x1 32 :=
  shapeCast S512x1 (multiReductionI .minsi [1] S512 (select b l (broadcast S512x128 10000#32)) 2147483647#32 reduces_S512x128_S512 rfl) shapeCasts_S512_S512x1

/-- The first item's choice. -/
def colA (a : FVec F S512x128 .f32) : IVec S512x1 32 := least (andi left (hit a)) lanes

/-- The second item's choice. -/
def colB (a : FVec F S512x128 .f32) : IVec S512x1 32 :=
  least (andi (xori left (constantI S512x128 1 1#1)) (hit a)) (subi lanes (broadcast S512x128 64#32))

/-! ## The blocks a pair reads -/

variable (x0 : Vec F S512x1024 .f32) (x1 : Vec F S512x26 .i32) (x2 : Vec F S1024x1664 .f32) (x3 : Vec F S13x128x128 .f32) (x4 : Vec F S1x1664 .f32)

theorem inbW (k : Fin 13) : ∀ a, (![0, 128 * k.val] : Fin 2 → ℕ) a + S1024x128.size a ≤ S1024x1664.size a := by
  intro a; have := k.isLt; fin_cases a
  · show 0 + 1024 ≤ 1024; omega
  · show 128 * k.val + 128 ≤ 1664; omega

theorem inbC (i : Fin 26) : ∀ a, (![0, i.val] : Fin 2 → ℕ) a + S512x1.size a ≤ S512x26.size a := by
  intro a; have := i.isLt; fin_cases a
  · show 0 + 512 ≤ 512; omega
  · show i.val + 1 ≤ 26; omega

theorem inbD (k : Fin 13) : ∀ a, (![k.val, 0, 0] : Fin 3 → ℕ) a + S1x128x128.size a ≤ S13x128x128.size a := by
  intro a; have := k.isLt; fin_cases a
  · show k.val + 1 ≤ 13; omega
  · show 0 + 128 ≤ 128; omega
  · show 0 + 128 ≤ 128; omega

theorem inbS (k : Fin 13) : ∀ a, (![0, 128 * k.val] : Fin 2 → ℕ) a + S1x128.size a ≤ S1x1664.size a := by
  intro a; have := k.isLt; fin_cases a
  · show 0 + 1 ≤ 1; omega
  · show 128 * k.val + 128 ≤ 1664; omega

theorem inbX : ∀ a, (![0, 0] : Fin 2 → ℕ) a + S512x1024.size a ≤ S512x1024.size a := by
  intro a; fin_cases a
  · show 0 + 512 ≤ 512; omega
  · show 0 + 1024 ≤ 1024; omega

/-- The items of pair `k`. -/
def itA (k : Fin 13) : Fin 26 := ⟨2 * k.val, by omega⟩
def itB (k : Fin 13) : Fin 26 := ⟨2 * k.val + 1, by omega⟩

/-- The features. -/
def rdX : Vec F S512x1024 .f32 := View.ld x0 (Rect.unit ![0, 0] S512x1024.size inbX)
/-- Pair `k`'s columns of the weights. -/
def rdW (k : Fin 13) : Vec F S1024x128 .f32 := View.ld x2 (Rect.unit ![0, 128 * k.val] S1024x128.size (inbW k))
/-- Item `i`'s column of the proposals. -/
def rdH (i : Fin 26) : Vec F S512x1 .i32 := View.ld x1 (Rect.unit ![0, i.val] S512x1.size (inbC i))
/-- Pair `k`'s block-diagonal weights. -/
def rdD (k : Fin 13) : Vec F S1x128x128 .f32 := View.ld x3 (Rect.unit ![k.val, 0, 0] S1x128x128.size (inbD k))
/-- Pair `k`'s biases. -/
def rdS (k : Fin 13) : Vec F S1x128 .f32 := View.ld x4 (Rect.unit ![0, 128 * k.val] S1x128.size (inbS k))

/-- Pair `k`'s logits. -/
def acc (k : Fin 13) : FVec F S512x128 .f32 :=
  k0_pay5 (rdX x0) (rdW x2 k) (rdH x1 (itA k)) (rdH x1 (itB k)) (rdD x3 k) (rdS x4 k)

/-- The stores of pair `k`'s two columns. -/
def pcA (k : Fin 13) : View.Piece (Elt F) S512x26 .i32 :=
  ⟨Rect.unit ![0, (itA k).val] S512x1.size (inbC (itA k)), colA (acc x0 x1 x2 x3 x4 k)⟩
def pcB (k : Fin 13) : View.Piece (Elt F) S512x26 .i32 :=
  ⟨Rect.unit ![0, (itB k).val] S512x1.size (inbC (itB k)), colB (acc x0 x1 x2 x3 x4 k)⟩

/-- All the stores, the last first. -/
def pcs : List (View.Piece (Elt F) S512x26 .i32) :=
  let A := pcA x0 x1 x2 x3 x4
  let B := pcB x0 x1 x2 x3 x4
  [B 12, A 12, B 11, A 11, B 10, A 10, B 9, A 9, B 8, A 8, B 7, A 7, B 6, A 6, B 5, A 5, B 4, A 4, B 3, A 3, B 2, A 2, B 1, A 1, B 0, A 0]

/-- The running sum over the pairs. -/
def total : F .f32 :=
  let p := fun k => pairSum (acc x0 x1 x2 x3 x4 k)
  let z : F .f32 := Scalar.ofBits .f32 0x00000000#32
  Scalar.addf (Scalar.addf (Scalar.addf (Scalar.addf (Scalar.addf (Scalar.addf (Scalar.addf (Scalar.addf (Scalar.addf (Scalar.addf (Scalar.addf (Scalar.addf (Scalar.addf z (p 0)) (p 1)) (p 2)) (p 3)) (p 4)) (p 5)) (p 6)) (p 7)) (p 8)) (p 9)) (p 10)) (p 11)) (p 12)

end Cert.Pair
-- ==== Proof.Math.lean ====
/-
  The mathematics of one row of logits: the softmax clipped to `[ε, 1 - ε]` keeps the row's first maximum, and the
  clipped logarithm of the softmax is the logarithm of the clipped one.
-/
module

public import Mathlib.Analysis.SpecialFunctions.Log.Basic
public import Mathlib.Data.EReal.Operations

@[expose] public section

noncomputable section

namespace Cert.Math

open Finset

/-- `i` is the first index at which the row has its maximum. -/
def IsFirst (z : Fin 64 → ℝ) (i : Fin 64) : Prop := (∀ l, z l ≤ z i) ∧ ∀ l, l < i → z l < z i

theorem exists_first (z : Fin 64 → ℝ) : ∃ i, IsFirst z i := by
  obtain ⟨j, -, hj⟩ := exists_max_image univ z ⟨0, mem_univ _⟩
  have hne : (univ.filter fun l => z l = z j).Nonempty := ⟨j, by simp⟩
  refine ⟨(univ.filter fun l => z l = z j).min' hne, ?_, ?_⟩
  · intro l
    have h := (mem_filter.1 (min'_mem _ hne)).2
    rw [h]; exact hj l (mem_univ _)
  · intro l hl
    have h := (mem_filter.1 (min'_mem _ hne)).2
    rw [h]
    refine lt_of_le_of_ne (hj l (mem_univ _)) fun e => ?_
    exact absurd (min'_le _ l (mem_filter.2 ⟨mem_univ _, e⟩)) (not_le.2 hl)

/-- The sum of the exponentials of the row less its maximum. -/
def mass (z : Fin 64 → ℝ) (i : Fin 64) : ℝ := ∑ l, Real.exp (z l - z i)

/-- The softmax. -/
def soft (z : Fin 64 → ℝ) (i l : Fin 64) : ℝ := Real.exp (z l - z i) / mass z i

/-- The softmax, clipped. -/
def clipped (z : Fin 64 → ℝ) (i l : Fin 64) : ℝ := min (999999 / 1000000) (max (1 / 1000000) (soft z i l))

/-- The softmax's logarithm, clipped. -/
def clippedLog (z : Fin 64 → ℝ) (i l : Fin 64) : ℝ :=
  min (Real.log (999999 / 1000000)) (max (Real.log (1 / 1000000)) (z l - z i - Real.log (mass z i)))

variable (z : Fin 64 → ℝ) (i : Fin 64)

theorem mass_pos : 0 < mass z i := sum_pos (fun l _ => Real.exp_pos _) ⟨i, mem_univ _⟩

theorem soft_pos (l : Fin 64) : 0 < soft z i l := div_pos (Real.exp_pos _) (mass_pos z i)

theorem clipped_pos (l : Fin 64) : 0 < clipped z i l :=
  lt_min (by norm_num) (lt_of_lt_of_le (by norm_num) (le_max_left _ _))

theorem log_min {a b : ℝ} (ha : 0 < a) (hb : 0 < b) : Real.log (min a b) = min (Real.log a) (Real.log b) := by
  rcases le_total a b with h | h
  · rw [min_eq_left h, min_eq_left (Real.log_le_log ha h)]
  · rw [min_eq_right h, min_eq_right (Real.log_le_log hb h)]

theorem log_max {a b : ℝ} (ha : 0 < a) (hb : 0 < b) : Real.log (max a b) = max (Real.log a) (Real.log b) := by
  rcases le_total a b with h | h
  · rw [max_eq_right h, max_eq_right (Real.log_le_log ha h)]
  · rw [max_eq_left h, max_eq_left (Real.log_le_log hb h)]

/-- The logarithm of the clipped softmax is the clipped logarithm. -/
theorem log_clipped (l : Fin 64) : Real.log (clipped z i l) = clippedLog z i l := by
  unfold clipped clippedLog
  rw [log_min (by norm_num) (lt_of_lt_of_le (by norm_num) (le_max_left _ _)), log_max (by norm_num) (soft_pos z i l)]
  congr 2
  unfold soft
  rw [Real.log_div (Real.exp_pos _).ne' (mass_pos z i).ne', Real.log_exp]

theorem mass_le (h : IsFirst z i) : mass z i ≤ 64 := by
  have : mass z i ≤ ∑ _l : Fin 64, (1 : ℝ) := sum_le_sum fun l _ => by
    rw [← Real.exp_zero]; exact Real.exp_le_exp.2 (by linarith [h.1 l])
  simpa using this

/-- The first maximum's probability is at least `1/64`. -/
theorem soft_first (h : IsFirst z i) : 1 / 64 ≤ soft z i i := by
  unfold soft
  rw [sub_self, Real.exp_zero]
  exact one_div_le_one_div_of_le (mass_pos z i) (mass_le z i h)

theorem soft_le (h : IsFirst z i) (l : Fin 64) : soft z i l ≤ soft z i i := by
  unfold soft
  exact div_le_div_of_nonneg_right (Real.exp_le_exp.2 (by linarith [h.1 l])) (mass_pos z i).le

theorem soft_add_le (l : Fin 64) (hl : l ≠ i) : soft z i l + soft z i i ≤ 1 := by
  unfold soft
  rw [← add_div, div_le_one (mass_pos z i)]
  unfold mass
  have := sum_le_sum_of_subset_of_nonneg (f := fun l => Real.exp (z l - z i)) (subset_univ {l, i}) fun _ _ _ => (Real.exp_pos _).le
  rwa [sum_pair hl] at this

/-- Clipping keeps the first maximum. -/
theorem first_clipped (h : IsFirst z i) : IsFirst (clipped z i) i := by
  constructor
  · intro l
    exact min_le_min_left _ (max_le_max_left _ (soft_le z i h l))
  · intro l hl
    have hlt : soft z i l < soft z i i := by
      unfold soft
      exact div_lt_div_of_pos_right (Real.exp_lt_exp.2 (by linarith [h.2 l hl])) (mass_pos z i)
    have h1 := soft_first z i h
    have h2 := soft_add_le z i l hl.ne
    refine lt_of_le_of_lt (min_le_right _ _) (lt_min ?_ (lt_of_lt_of_le ?_ (le_max_right _ _)))
    · exact max_lt (by norm_num) (by linarith)
    · exact max_lt (by linarith) hlt

/-- One item's sum of `p * log p` over its categories. -/
def gain (z : Fin 64 → ℝ) (i : Fin 64) : ℝ := ∑ l, clipped z i l * Real.log (clipped z i l)

end Cert.Math
-- ==== Proof.PairAt.lean ====
/-
  One pair of items at the ideal values, read at an index: where a row's half of the logits is a real row `z` whose
  first maximum is at `i`, the half's choice is `i`, and the half adds `clipped * clippedLog` to the pair's sum.
-/
module

public import proofs.«01_k».proof.Proof.Pair
public import proofs.«01_k».proof.Proof.Math
public import Idealize.ShloMosaic.PureOps.Ideal.Laws
public import Idealize.ShloMosaic.Lib.ValueIdx

@[expose] public section

noncomputable section

namespace Cert.Pair

open Cert.KernelIdeal Cert.KernelIdeal.Gen Idealize.ShloMosaic Idealize.ShloMosaic.TcCoe Idealize.SL.Sem Cert.Math

/-! ## Indices -/

/-- Row `r`, lane `l`. -/
abbrev rl (r : Fin 512) (l : Fin 128) : S512x128.Idx := fun a => match a with | ⟨0, _⟩ => r | ⟨1, _⟩ => l
abbrev rc (r : Fin 512) : S512x1.Idx := fun a => match a with | ⟨0, _⟩ => r | ⟨1, _⟩ => ⟨0, Nat.one_pos⟩
abbrev rr (r : Fin 512) : S512.Idx := fun a => match a with | ⟨0, _⟩ => r

theorem rl_eta (i : S512x128.Idx) : rl (i 0) (i 1) = i := funext fun a => match a with | ⟨0, _⟩ => rfl | ⟨1, _⟩ => rfl

/-- Lane `l` of half `h`. -/
def lane (h : Fin 2) (l : Fin 64) : Fin 128 := ⟨64 * h.val + l.val, by omega⟩

theorem lane_cases (k : Fin 128) : ∃ h l, k = lane h l :=
  ⟨⟨k.val / 64, by omega⟩, ⟨k.val % 64, by omega⟩, Fin.ext (by show k.val = 64 * (k.val / 64) + k.val % 64; omega)⟩

theorem sum_lanes {M : Type} [AddCommMonoid M] (f : Fin 128 → M) :
    ∑ k, f k = ∑ l, f (lane 0 l) + ∑ l, f (lane 1 l) := by
  refine (Fin.sum_univ_add (a := 64) (b := 64) f).trans ?_
  refine congrArg₂ (· + ·) (Finset.sum_congr rfl fun l _ => congrArg f (Fin.ext ?_)) rfl
  show l.val = 64 * 0 + l.val; omega

/-! ## Masks and spreads -/

theorem lanes_at (r : Fin 512) (l : Fin 128) : lanes (rl r l) = BitVec.ofNat 32 l.val := by
  show BitVec.ofNat 32 (0 * 128 + l.val) = _
  rw [Nat.zero_mul, Nat.zero_add]

theorem left_at (r : Fin 512) (l : Fin 128) : left (rl r l) = BitVec.ofBool (decide (l.val < 64)) := by
  have e : left (rl r l) = IntOp.cmpi .slt (lanes (rl r l)) 64#32 := rfl
  rw [e, lanes_at]
  exact (by decide : ∀ l : Fin 128, IntOp.cmpi .slt (BitVec.ofNat 32 l.val) 64#32 = BitVec.ofBool (decide (l.val < 64))) l

theorem left_lane (r : Fin 512) (h : Fin 2) (l : Fin 64) : left (rl r (lane h l)) = BitVec.ofBool (decide (h = 0)) := by
  rw [left_at]
  congr 2
  unfold lane
  fin_cases h <;> simp

variable {α : Type}

theorem sel_left (r : Fin 512) (h : Fin 2) (l : Fin 64) (x y : S512x128.Idx → α) :
    select left x y (rl r (lane h l)) = if h = 0 then x (rl r (lane h l)) else y (rl r (lane h l)) := by
  show Scalar.select (left (rl r (lane h l))) _ _ = _
  rw [left_lane]
  by_cases e : h = 0 <;> simp [e, Scalar.select]

theorem spread_at (u : FVec Ideal S512 .f32) (r : Fin 512) (l : Fin 128) : spread u (rl r l) = u (rr r) := by
  unfold spread
  rw [broadcastTo_apply _ broadcasts_S512x1_S512x128 (rl r l) (rc r) (fun a => match a with
    | ⟨0, _⟩ => rfl
    | ⟨1, _⟩ => rfl)]
  rw [shapeCast_self, shapeCast_apply _ shapeCasts_S512_S512x1 (rc r) (rr r) (by
    show (S512.rowMajor (rr r)).val = (S512x1.rowMajor (rc r)).val
    rw [Shape.rowMajor_val_one, Shape.rowMajor_val_two]
    show r.val = r.val * 1 + 0
    omega)]

theorem halves_at (u v : FVec Ideal S512 .f32) (r : Fin 512) (h : Fin 2) (l : Fin 64) :
    halves u v (rl r (lane h l)) = if h = 0 then u (rr r) else v (rr r) := by
  unfold halves
  rw [sel_left, spread_at, spread_at]

theorem lift_at (r : Fin 512) (k : Fin 128) : reduces_S512x128_S512.lift (rr r) k = rl r k :=
  funext fun a => match a with
    | ⟨0, _⟩ => rfl
    | ⟨1, _⟩ => rfl

/-! ## One half with real logits -/

theorem bits_bot : (Scalar.ofBits .f32 0xFF800000#32 : Ideal .f32) = (⊥ : EReal) := by
  show Ideal.ofBits .f32 0xFF800000#32 = ⊥
  simp [Ideal.ofBits, Ideal.ieee]

theorem bits_zero : (Scalar.ofBits .f32 0x00000000#32 : Ideal .f32) = (0 : EReal) := Ideal.ofBits_zero_f32

theorem coe_max' (x y : ℝ) : max (x : EReal) (y : EReal) = ((max x y : ℝ) : EReal) := (EReal.coe_strictMono.monotone.map_max).symm
theorem coe_min' (x y : ℝ) : min (x : EReal) (y : EReal) = ((min x y : ℝ) : EReal) := (EReal.coe_strictMono.monotone.map_min).symm

theorem coe_sum' {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

/-- A fold of `max` from the bottom over a row whose entries at one half are `z` and at the other the bottom. -/
theorem fold_half (f : Fin 128 → EReal) (h : Fin 2) (z : Fin 64 → ℝ) (i : Fin 64) (hi : ∀ l, z l ≤ z i)
    (hz : ∀ l, f (lane h l) = (z l : EReal)) (ho : ∀ h' l, h' ≠ h → f (lane h' l) = ⊥) :
    (Finset.univ : Finset (Fin 128)).fold max ⊥ f = (z i : EReal) := by
  apply le_antisymm
  · refine (Finset.fold_max_le _).2 ⟨bot_le, fun k _ => ?_⟩
    obtain ⟨h', l, rfl⟩ := lane_cases k
    by_cases e : h' = h
    · subst e; rw [hz]; exact_mod_cast hi l
    · rw [ho h' l e]; exact bot_le
  · exact (Finset.le_fold_max _).2 (.inr ⟨lane h i, Finset.mem_univ _, (hz i).ge⟩)

variable (a : FVec Ideal S512x128 .f32) (r : Fin 512) (h : Fin 2) (z : Fin 64 → ℝ) (i : Fin 64)

theorem peak_at (hi : ∀ l, z l ≤ z i) (hz : ∀ l, a (rl r (lane h l)) = (z l : EReal)) (l : Fin 64) :
    peak a (rl r (lane h l)) = (z i : EReal) := by
  unfold peak
  rw [halves_at]
  have key : ∀ (x : FVec Ideal S512x128 .f32), (∀ l, x (rl r (lane h l)) = (z l : EReal)) → (∀ h' l, h' ≠ h → x (rl r (lane h' l)) = (⊥ : EReal)) →
      multiReduction .maximumf [1] S512 x 0xFF800000#32 reduces_S512x128_S512 (.inl rfl) rfl (rr r) = (z i : EReal) := fun x hx ho => by
    refine (Ideal.multiReduction_maximumf_single x _ _ _ _ _).trans ?_
    have hb : (FloatOps.ofBits .f32 0xFF800000#32 : Ideal .f32) = (⊥ : EReal) := bits_bot
    rw [hb]
    exact fold_half _ h z i hi (fun l => (congrArg x (lift_at r _)).trans (hx l)) (fun h' l hne => (congrArg x (lift_at r _)).trans (ho h' l hne))
  split
  · next e =>
    refine key _ (fun l => ?_) (fun h' l hne => ?_)
    · rw [sel_left, if_pos e, hz]
    · rw [sel_left, if_neg (by rw [← e]; exact hne)]; exact bits_bot
  · next e =>
    refine key _ (fun l => ?_) (fun h' l hne => ?_)
    · rw [sel_left, if_neg e, hz]
    · rw [sel_left, if_pos (by omega)]; exact bits_bot

theorem mass_at (w : Fin 64 → ℝ) (hw : ∀ l, a (rl r (lane h l)) = (w l : EReal)) (l : Fin 64) :
    mass a (rl r (lane h l)) = ((∑ l, w l : ℝ) : EReal) := by
  unfold mass
  rw [halves_at]
  have key : ∀ (x : FVec Ideal S512x128 .f32), (∀ l, x (rl r (lane h l)) = (w l : EReal)) → (∀ h' l, h' ≠ h → x (rl r (lane h' l)) = (0 : EReal)) →
      multiReduction .add [1] S512 x 0x00000000#32 reduces_S512x128_S512 (.inl rfl) rfl (rr r) = ((∑ l, w l : ℝ) : EReal) := fun x hx ho => by
    refine (Ideal.multiReduction_add_single x _ _ _ _ _).trans ?_
    refine (Finset.sum_congr rfl fun k _ => congrArg x (lift_at r k)).trans ?_
    refine (sum_lanes fun k => (x (rl r k) : EReal)).trans ?_
    rw [coe_sum']
    obtain rfl | rfl : h = 0 ∨ h = 1 := by omega
    · rw [Finset.sum_congr rfl fun l _ => hx l, Finset.sum_congr rfl fun l _ => ho 1 l (by decide), Finset.sum_const_zero, add_zero]
    · rw [Finset.sum_congr rfl fun l _ => hx l, Finset.sum_congr rfl fun l _ => ho 0 l (by decide), Finset.sum_const_zero, zero_add]
  split
  · next e =>
    refine key _ (fun l => ?_) (fun h' l hne => ?_)
    · rw [sel_left, if_pos e, hw]
    · rw [sel_left, if_neg (by rw [← e]; exact hne)]; exact bits_zero
  · next e =>
    refine key _ (fun l => ?_) (fun h' l hne => ?_)
    · rw [sel_left, if_neg e, hw]
    · rw [sel_left, if_pos (by omega)]; exact bits_zero

theorem shifted_at (hi : ∀ l, z l ≤ z i) (hz : ∀ l, a (rl r (lane h l)) = (z l : EReal)) (l : Fin 64) :
    shifted a (rl r (lane h l)) = ((z l - z i : ℝ) : EReal) := by
  show a (rl r (lane h l)) - peak a (rl r (lane h l)) = _
  rw [peak_at a r h z i hi hz, hz, EReal.coe_sub]

variable (t : FVec Ideal S512x128 .f32)

theorem exps_at (ht : ∀ l, t (rl r (lane h l)) = ((z l - z i : ℝ) : EReal)) (l : Fin 64) :
    mass (exp t) (rl r (lane h l)) = (Math.mass z i : EReal) := by
  refine mass_at (exp t) r h (fun l => Real.exp (z l - z i)) (fun l => ?_) l
  show Ideal.exp (t (rl r (lane h l))) = _
  rw [ht, Ideal.exp_coe]

theorem prob_at (ht : ∀ l, t (rl r (lane h l)) = ((z l - z i : ℝ) : EReal)) (l : Fin 64) :
    prob t (rl r (lane h l)) = (clipped z i l : EReal) := by
  show min ((999999 / 1000000 : ℝ) : EReal) (max ((1 / 1000000 : ℝ) : EReal) (Ideal.div (Ideal.exp (t (rl r (lane h l)))) (mass (exp t) (rl r (lane h l))))) = _
  rw [exps_at r h z i t ht, ht, Ideal.exp_coe, Ideal.div_coe (mass_pos z i).ne', ← EReal.coe_mul, coe_max', coe_min', mul_one_div]
  rfl

theorem logp_at (ht : ∀ l, t (rl r (lane h l)) = ((z l - z i : ℝ) : EReal)) (l : Fin 64) :
    logp t (rl r (lane h l)) = (clippedLog z i l : EReal) := by
  show min ((Real.log (999999 / 1000000) : ℝ) : EReal) (max ((Real.log (1 / 1000000) : ℝ) : EReal) (t (rl r (lane h l)) - Ideal.log (mass (exp t) (rl r (lane h l))))) = _
  rw [exps_at r h z i t ht, ht, Ideal.log_coe, if_neg (not_le.2 (mass_pos z i)), ← EReal.coe_sub, coe_max', coe_min']
  rfl

/-- One lane's part of the sum. -/
theorem part_at (hi : ∀ l, z l ≤ z i) (hz : ∀ l, a (rl r (lane h l)) = (z l : EReal)) (l : Fin 64) :
    mulf (prob (shifted a)) (logp (shifted a)) (rl r (lane h l)) = ((clipped z i l * Real.log (clipped z i l) : ℝ) : EReal) := by
  show prob (shifted a) (rl r (lane h l)) * logp (shifted a) (rl r (lane h l)) = _
  rw [prob_at r h z i _ (shifted_at a r h z i hi hz), logp_at r h z i _ (shifted_at a r h z i hi hz), log_clipped, EReal.coe_mul]

theorem hit_at (hi : ∀ l, z l ≤ z i) (hz : ∀ l, a (rl r (lane h l)) = (z l : EReal)) (l : Fin 64) :
    hit a (rl r (lane h l)) = BitVec.ofBool (decide (z l = z i)) := by
  show Ideal.cmp .oeq (shifted a (rl r (lane h l))) (Scalar.ofBits .f32 0x00000000#32 : Ideal .f32) = _
  rw [shifted_at a r h z i hi hz, bits_zero]
  show BitVec.ofBool (decide (((z l - z i : ℝ) : EReal) = 0)) = _
  congr 2
  rw [EReal.coe_eq_zero, sub_eq_zero]

/-! ## The least marked number -/

/-- A fold of the signed minimum, from the greatest word, is a value it meets that none is below. -/
theorem fold_least {ι : Type} [DecidableEq ι] (s : Finset ι) (f : ι → BitVec 32) (v : BitVec 32) (x : ι) (hx : x ∈ s) (hv : f x = v)
    (hle : ∀ y ∈ s, v.toInt ≤ (f y).toInt) : s.fold IKind.minsi.op 2147483647#32 f = v := by
  have hm : ∀ p q : BitVec 32, (IKind.minsi.op p q).toInt = min p.toInt q.toInt := fun p q => by
    have e : IKind.minsi.op p q = if p.slt q then p else q := rfl
    rw [e, min_def, BitVec.slt_eq_decide]
    split <;> split <;> simp_all <;> omega
  apply BitVec.eq_of_toInt_eq
  rw [← Finset.fold_hom hm]
  apply le_antisymm
  · exact (Finset.fold_min_le _).2 (.inr ⟨x, hx, by rw [hv]⟩)
  · refine (Finset.le_fold_min _).2 ⟨?_, hle⟩
    have := v.toInt_lt
    show v.toInt ≤ 2147483647
    omega

theorem least_at (b : IVec S512x128 1) (n : IVec S512x128 32) (r : Fin 512) (h : Fin 2) (i : Fin 64)
    (hb : b (rl r (lane h i)) = 1#1) (hn : ∀ l, n (rl r (lane h l)) = BitVec.ofNat 32 l.val)
    (hm : ∀ h' l, b (rl r (lane h' l)) = 1#1 → h' = h ∧ i ≤ l) :
    least b n (rc r) = BitVec.ofNat 32 i.val := by
  unfold least
  rw [shapeCast_apply _ shapeCasts_S512_S512x1 (rc r) (rr r) (by
    show (S512.rowMajor (rr r)).val = (S512x1.rowMajor (rc r)).val
    rw [Shape.rowMajor_val_one, Shape.rowMajor_val_two]
    show r.val = r.val * 1 + 0
    omega)]
  refine (multiReductionI_eq_fold .minsi _ _ _ _ _).trans ?_
  have small : ∀ l : Fin 64, (BitVec.ofNat 32 l.val).toInt = (l.val : Int) := by decide
  refine fold_least _ _ _ (rl r (lane h i)) ?_ ?_ ?_
  · rw [Finset.mem_filter]
    exact ⟨Finset.mem_univ _, funext fun a => match a with | ⟨0, _⟩ => rfl⟩
  · show Scalar.select (b (rl r (lane h i))) _ _ = _
    rw [hb, hn]; rfl
  · intro y hy
    have hy0 : y 0 = r := congrFun (Finset.mem_filter.1 hy).2 0
    obtain ⟨h', l, e⟩ := lane_cases (y 1)
    rw [← rl_eta y, hy0, e]
    show _ ≤ (Scalar.select (b (rl r (lane h' l))) (n (rl r (lane h' l))) 10000#32).toInt
    unfold Scalar.select
    split
    · next q =>
      obtain ⟨rfl, hil⟩ := hm h' l q
      rw [hn, small, small]
      exact_mod_cast hil
    · rw [small]
      show (i.val : Int) ≤ 10000
      omega

theorem colA_at (hi : IsFirst z i) (hz : ∀ l, a (rl r (lane 0 l)) = (z l : EReal)) : colA a (rc r) = BitVec.ofNat 32 i.val := by
  refine least_at _ _ r 0 i ?_ (fun l => ?_) (fun h' l hb => ?_)
  · show left (rl r (lane 0 i)) &&& hit a (rl r (lane 0 i)) = 1#1
    rw [left_lane, hit_at a r 0 z i hi.1 hz]; simp
  · rw [lanes_at]; congr 1; show 64 * 0 + l.val = _; omega
  · have e : left (rl r (lane h' l)) &&& hit a (rl r (lane h' l)) = 1#1 := hb
    rw [left_lane] at e
    obtain rfl | rfl : h' = 0 ∨ h' = 1 := by omega
    · refine ⟨rfl, not_lt.1 fun q => ?_⟩
      rw [hit_at a r 0 z i hi.1 hz, decide_eq_false (hi.2 l q).ne] at e
      revert e; decide
    · revert e
      generalize hit a _ = q
      exact fun e => absurd e ((by decide : ∀ q : BitVec 1, ¬ (BitVec.ofBool (decide ((1 : Fin 2) = 0)) &&& q = 1#1)) q)

theorem colB_at (hi : IsFirst z i) (hz : ∀ l, a (rl r (lane 1 l)) = (z l : EReal)) : colB a (rc r) = BitVec.ofNat 32 i.val := by
  refine least_at _ _ r 1 i ?_ (fun l => ?_) (fun h' l hb => ?_)
  · show (left (rl r (lane 1 i)) ^^^ 1#1) &&& hit a (rl r (lane 1 i)) = 1#1
    rw [left_lane, hit_at a r 1 z i hi.1 hz]; simp
  · show lanes (rl r (lane 1 l)) - 64#32 = _
    rw [lanes_at]
    exact (by decide : ∀ l : Fin 64, BitVec.ofNat 32 (lane 1 l).val - 64#32 = BitVec.ofNat 32 l.val) l
  · have e : (left (rl r (lane h' l)) ^^^ 1#1) &&& hit a (rl r (lane h' l)) = 1#1 := hb
    rw [left_lane] at e
    obtain rfl | rfl : h' = 0 ∨ h' = 1 := by omega
    · revert e
      generalize hit a _ = q
      exact fun e => absurd e ((by decide : ∀ q : BitVec 1, ¬ ((BitVec.ofBool (decide ((0 : Fin 2) = 0)) ^^^ 1#1) &&& q = 1#1)) q)
    · refine ⟨rfl, not_lt.1 fun q => ?_⟩
      rw [hit_at a r 1 z i hi.1 hz, decide_eq_false (hi.2 l q).ne] at e
      revert e; decide

/-! ## The pair's sum -/

/-- Index `(0, r, l)` of the pair's block, seen with a leading axis of size 1. -/
def cube (r : Fin 512) (l : Fin 128) : S1x512x128.Idx := fun a => match a with | ⟨0, _⟩ => (0 : Fin 1) | ⟨1, _⟩ => r | ⟨2, _⟩ => l

def cubeEquiv : Fin 512 × Fin 128 ≃ S1x512x128.Idx where
  toFun p := cube p.1 p.2
  invFun i := (i 1, i 2)
  left_inv _ := rfl
  right_inv i := funext fun a => match a with
    | ⟨0, _⟩ => Fin.ext (by have h1 : (i 0).val < 1 := (i 0).isLt; show 0 = (i 0).val; omega)
    | ⟨1, _⟩ => rfl
    | ⟨2, _⟩ => rfl

theorem sum_cube (x : FVec Ideal S512x128 .f32) :
    ∑ j : S1x512x128.Idx, (shapeCast S1x512x128 x shapeCasts_S512x128_S1x512x128 j : EReal) = ∑ r, ∑ l, (x (rl r l) : EReal) := by
  rw [← Equiv.sum_comp cubeEquiv, Fintype.sum_prod_type]
  refine Finset.sum_congr rfl fun r _ => Finset.sum_congr rfl fun l _ => ?_
  refine shapeCast_apply x _ _ (rl r l) ?_
  rw [Shape.rowMajor_val_two, Shape.rowMajor_val_three]
  show r.val * 128 + l.val = (0 * 512 + r.val) * 128 + l.val
  omega

theorem pairSum_eq : pairSum a = ∑ r, ∑ l, (mulf (prob (shifted a)) (logp (shifted a)) (rl r l) : EReal) := by
  refine Eq.trans ?_ (sum_cube (mulf (prob (shifted a)) (logp (shifted a))))
  exact Ideal.multiReduction_add_total (φ := .f32) (shapeCast S1x512x128 (mulf (prob (shifted a)) (logp (shifted a))) shapeCasts_S512x128_S1x512x128)
    0x00000000#32 reduces_S1x512x128_S1 (by decide) (.inl rfl) rfl _

theorem pairSum_at (zz : Fin 2 → Fin 512 → Fin 64 → ℝ) (ii : Fin 2 → Fin 512 → Fin 64) (hi : ∀ h r, IsFirst (zz h r) (ii h r))
    (hz : ∀ h r l, a (rl r (lane h l)) = (zz h r l : EReal)) :
    pairSum a = ((∑ r, (gain (zz 0 r) (ii 0 r) + gain (zz 1 r) (ii 1 r)) : ℝ) : EReal) := by
  rw [pairSum_eq, coe_sum']
  refine Finset.sum_congr rfl fun r _ => ?_
  rw [sum_lanes, EReal.coe_add, gain, gain, coe_sum', coe_sum']
  congr 1 <;> exact Finset.sum_congr rfl fun l _ => part_at a r _ _ _ (hi _ r).1 (hz _ r) l

end Cert.Pair
-- ==== Proof.AccAt.lean ====
/-
  A pair's logits over the extended reals: the two block products are plain sums, and the block-diagonal one reaches
  only the half's own categories.
-/
module

public import proofs.«01_k».proof.Proof.PairAt

@[expose] public section

noncomputable section

namespace Cert.Pair

open Cert.KernelIdeal Cert.KernelIdeal.Gen Idealize.ShloMosaic Idealize.ShloMosaic.TcCoe Idealize.SL.Sem
open Cert.Math

/-- Whether a proposal is the category `j`, as a number. -/
def hot (w : BitVec 32) (j : Fin 64) : EReal := ((if w = BitVec.ofNat 32 j.val then 1 else 0 : ℝ) : EReal)

/-- A logit: the features' product, the one-hot row's product and the bias. -/
def logit (x t : Fin 1024 → EReal) (w : BitVec 32) (e : Fin 64 → EReal) (b : EReal) : EReal :=
  (∑ k, x k * t k + ∑ j, hot w j * e j) + b

/-! ## The two products -/

abbrev dimsX := dot_S512x1024_S1024x128_S512x128_1_0_0_1_n_n
abbrev dimsH := dot_S512x128_S128x128_S512x128_1_0_0_1_n_n

def xix (r : Fin 512) (k : Fin 1024) : S512x1024.Idx := fun a => match a with | ⟨0, _⟩ => r | ⟨1, _⟩ => k
def wix (k : Fin 1024) (l : Fin 128) : S1024x128.Idx := fun a => match a with | ⟨0, _⟩ => k | ⟨1, _⟩ => l
def dix (q l : Fin 128) : S128x128.Idx := fun a => match a with | ⟨0, _⟩ => q | ⟨1, _⟩ => l
def dix1 (q l : Fin 128) : S1x128x128.Idx := fun a => match a with | ⟨0, _⟩ => (0 : Fin 1) | ⟨1, _⟩ => q | ⟨2, _⟩ => l
def six (l : Fin 128) : S1x128.Idx := fun a => match a with | ⟨0, _⟩ => (0 : Fin 1) | ⟨1, _⟩ => l

theorem matX_at (x : FVec Ideal S512x1024 .f32) (w : FVec Ideal S1024x128 .f32) (r : Fin 512) (l : Fin 128) :
    matmul dimsX none x w (constant S512x128 .f32 0x00000000#32) (rl r l) = ∑ k, (x (xix r k) : EReal) * w (wix k l) := by
  refine (Ideal.matmul_constant_zero_apply _ _ _ _ _).trans ?_
  rw [← Equiv.sum_comp (ValueIdx.contrEquiv1 dimsX 1024 rfl rfl).symm]
  refine Finset.sum_congr rfl fun k _ => ?_
  have hk := ValueIdx.contrEquiv1_symm_val dimsX 1024 rfl rfl k
  have el : dimsX.lhsIdx (rl r l) ((ValueIdx.contrEquiv1 dimsX 1024 rfl rfl).symm k) = xix r k := funext fun a => Fin.ext (by
    match a with
    | ⟨0, _⟩ =>
      show (dimsX.lhsIdx _ _ 0).val = _
      unfold DotDims.lhsIdx
      rw [dif_neg (by decide), dif_pos (by decide)]; rfl
    | ⟨1, _⟩ => exact (dimsX.lhsIdx_val_of_single rfl _ _).trans hk)
  have er : dimsX.rhsIdx (rl r l) ((ValueIdx.contrEquiv1 dimsX 1024 rfl rfl).symm k) = wix k l := funext fun a => Fin.ext (by
    match a with
    | ⟨0, _⟩ => exact (dimsX.rhsIdx_val_of_single rfl _ _).trans hk
    | ⟨1, _⟩ =>
      show (dimsX.rhsIdx _ _ 1).val = _
      unfold DotDims.rhsIdx
      rw [dif_neg (by decide), dif_pos (by decide)]; rfl)
  rw [el, er]

theorem matH_at (x : FVec Ideal S512x128 .f32) (w : FVec Ideal S128x128 .f32) (r : Fin 512) (l : Fin 128) :
    matmul dimsH none x w (constant S512x128 .f32 0x00000000#32) (rl r l) = ∑ q, (x (rl r q) : EReal) * w (dix q l) := by
  refine (Ideal.matmul_constant_zero_apply _ _ _ _ _).trans ?_
  rw [← Equiv.sum_comp (ValueIdx.contrEquiv1 dimsH 128 rfl rfl).symm]
  refine Finset.sum_congr rfl fun k _ => ?_
  have hk := ValueIdx.contrEquiv1_symm_val dimsH 128 rfl rfl k
  have el : dimsH.lhsIdx (rl r l) ((ValueIdx.contrEquiv1 dimsH 128 rfl rfl).symm k) = rl r k := funext fun a => Fin.ext (by
    match a with
    | ⟨0, _⟩ =>
      show (dimsH.lhsIdx _ _ 0).val = _
      unfold DotDims.lhsIdx
      rw [dif_neg (by decide), dif_pos (by decide)]; rfl
    | ⟨1, _⟩ => exact (dimsH.lhsIdx_val_of_single rfl _ _).trans hk)
  have er : dimsH.rhsIdx (rl r l) ((ValueIdx.contrEquiv1 dimsH 128 rfl rfl).symm k) = dix k l := funext fun a => Fin.ext (by
    match a with
    | ⟨0, _⟩ => exact (dimsH.rhsIdx_val_of_single rfl _ _).trans hk
    | ⟨1, _⟩ =>
      show (dimsH.rhsIdx _ _ 1).val = _
      unfold DotDims.rhsIdx
      rw [dif_neg (by decide), dif_pos (by decide)]; rfl)
  rw [el, er]

/-! ## The one-hot table -/

/-- A column of proposals, at every lane. -/
def wide (u : IVec S512x1 32) : IVec S512x128 32 :=
  broadcastTo S512x128 (shapeCast S512x1 u shapeCasts_S512x1_S512x1) broadcasts_S512x1_S512x128

theorem wide_at (u : IVec S512x1 32) (r : Fin 512) (l : Fin 128) : wide u (rl r l) = u (rc r) := by
  unfold wide
  rw [broadcastTo_apply _ broadcasts_S512x1_S512x128 (rl r l) (rc r) (fun a => match a with
    | ⟨0, _⟩ => by show r.val = if (512 : Nat) = 1 then 0 else r.val; rw [if_neg (by decide)]
    | ⟨1, _⟩ => by show 0 = if (1 : Nat) = 1 then 0 else l.val; rw [if_pos rfl]), shapeCast_self]

/-- The pair's one-hot rows. -/
def hots (u v : IVec S512x1 32) : FVec Ideal S512x128 .f32 :=
  sitofp .f32 (extui 32 (cmpi .eq lanes (select left (wide u) (wide (addi v (broadcast S512x1 64#32))))) natLt_1_32)

theorem word_eq (p q : BitVec 32) : (((BitVec.setWidth 32 (BitVec.ofBool (p == q))).toInt : ℝ) : EReal) = ((if q = p then 1 else 0 : ℝ) : EReal) := by
  by_cases e : p = q
  · subst e; simp
  · rw [beq_false_of_ne e, if_neg (Ne.symm e)]; simp

theorem hots_at (u v : IVec S512x1 32) (r : Fin 512) (h : Fin 2) (j : Fin 64) :
    hots u v (rl r (lane h j)) = hot (if h = 0 then u (rc r) else v (rc r)) j := by
  have e : hots u v (rl r (lane h j)) = (((BitVec.setWidth 32 (BitVec.ofBool (lanes (rl r (lane h j)) == select left (wide u) (wide (addi v (broadcast S512x1 64#32))) (rl r (lane h j))))).toInt : ℝ) : EReal) := rfl
  rw [e, word_eq, sel_left, lanes_at, hot]
  obtain rfl | rfl : h = 0 ∨ h = 1 := by omega
  · rw [if_pos rfl, if_pos rfl, wide_at]
    have e2 : (lane 0 j).val = j.val := by show 64 * 0 + j.val = _; omega
    rw [e2]
  · rw [if_neg (show ¬ (1 : Fin 2) = 0 by decide), if_neg (show ¬ (1 : Fin 2) = 0 by decide), wide_at]
    have e2 : BitVec.ofNat 32 (lane 1 j).val = BitVec.ofNat 32 j.val + 64#32 :=
      (by decide : ∀ j : Fin 64, BitVec.ofNat 32 (lane 1 j).val = BitVec.ofNat 32 j.val + 64#32) j
    have e3 : addi v (broadcast S512x1 64#32) (rc r) = v (rc r) + 64#32 := rfl
    rw [e2, e3]
    congr 2
    exact propext ⟨fun q => by simpa using q, fun q => by rw [q]⟩

/-! ## The pair's logits -/

theorem pay5_eq (v0 : FVec Ideal S512x1024 .f32) (v4 : FVec Ideal S1024x128 .f32) (v7 v8 : IVec S512x1 32) (v19 : FVec Ideal S1x128x128 .f32) (v23 : FVec Ideal S1x128 .f32) :
    k0_pay5 (F := Ideal) v0 v4 v7 v8 v19 v23 = addf (addf (matmul dimsX none v0 (shapeCast S1024x128 v4 shapeCasts_S1024x128_S1024x128) (constant S512x128 .f32 0x00000000#32))
      (matmul dimsH none (hots v7 v8) (shapeCast S128x128 v19 shapeCasts_S1x128x128_S128x128) (constant S512x128 .f32 0x00000000#32)))
      (broadcastTo S512x128 (shapeCast S1x128 v23 shapeCasts_S1x128_S1x128) broadcasts_S1x128_S512x128) := rfl

theorem pay5_at (v0 : FVec Ideal S512x1024 .f32) (v4 : FVec Ideal S1024x128 .f32) (v7 v8 : IVec S512x1 32) (v19 : FVec Ideal S1x128x128 .f32) (v23 : FVec Ideal S1x128 .f32)
    (r : Fin 512) (h : Fin 2) (l : Fin 64) (e : Fin 64 → EReal)
    (hd : ∀ h' j, v19 (dix1 (lane h' j) (lane h l)) = if h' = h then e j else 0) :
    k0_pay5 (F := Ideal) v0 v4 v7 v8 v19 v23 (rl r (lane h l))
      = logit (fun k => v0 (xix r k)) (fun k => v4 (wix k (lane h l))) (if h = 0 then v7 (rc r) else v8 (rc r)) e (v23 (six (lane h l))) := by
  rw [pay5_eq]
  rw [ValueIdx.addf_apply, ValueIdx.addf_apply, matX_at, matH_at, shapeCast_self, shapeCast_self, sum_lanes, logit]
  have hs : ∀ q, shapeCast S128x128 v19 shapeCasts_S1x128x128_S128x128 (dix q (lane h l)) = v19 (dix1 q (lane h l)) := fun q =>
    shapeCast_apply v19 _ _ _ (by
      rw [Shape.rowMajor_val_three, Shape.rowMajor_val_two]
      show (0 * 128 + q.val) * 128 + (lane h l).val = q.val * 128 + (lane h l).val
      omega)
  have hb : broadcastTo S512x128 v23 broadcasts_S1x128_S512x128 (rl r (lane h l)) = v23 (six (lane h l)) :=
    broadcastTo_apply _ broadcasts_S1x128_S512x128 _ _ (fun a => match a with
      | ⟨0, _⟩ => by show 0 = if (1 : Nat) = 1 then 0 else r.val; rw [if_pos rfl]
      | ⟨1, _⟩ => by show (lane h l).val = if (128 : Nat) = 1 then 0 else (lane h l).val; rw [if_neg (by decide)])
  have half : ∀ h' : Fin 2, ∑ j, (hots v7 v8 (rl r (lane h' j)) : EReal) * shapeCast S128x128 v19 shapeCasts_S1x128x128_S128x128 (dix (lane h' j) (lane h l))
      = if h' = h then ∑ j, hot (if h = 0 then v7 (rc r) else v8 (rc r)) j * e j else 0 := fun h' => by
    split
    · next q => subst q; exact Finset.sum_congr rfl fun j _ => by rw [hots_at, hs, hd, if_pos rfl]
    · next q =>
      refine (Finset.sum_congr rfl fun j _ => ?_).trans Finset.sum_const_zero
      rw [hs, hd, if_neg q, mul_zero]
  rw [half, half, hb]
  congr 2
  generalize (∑ j, hot _ j * e j) = S
  obtain rfl | rfl : h = 0 ∨ h = 1 := by omega
  · rw [if_pos rfl, if_neg (show ¬ (1 : Fin 2) = 0 by decide), add_zero]
  · rw [if_neg (show ¬ (0 : Fin 2) = 1 by decide), if_pos rfl, zero_add]

end Cert.Pair
-- ==== Proof.LogitAt.lean ====
/-
  The reference's logits over the extended reals: the one product over the joined axis is the features' product plus
  the one-hot row's.
-/
module

public import proofs.«01_k».proof.Proof.RefRun
public import proofs.«01_k».proof.Proof.AccAt

@[expose] public section

noncomputable section

namespace Cert.RefRun

open Cert.ReferenceIdeal Cert.ReferenceIdeal.Gen Idealize.ShloMosaic Idealize.ShloMosaic.TcCoe Idealize.SL.Sem Idealize.ShloMosaic.StableHlo
open Cert.Pair (hot logit)

/-- The table's index of item `n`, example `b` and category `l`. -/
def tix (n : Fin 26) (b : Fin 4096) (l : Fin 64) : S26x4096x64.Idx := fun a => match a with | ⟨0, _⟩ => n | ⟨1, _⟩ => b | ⟨2, _⟩ => l
def fix (n : Fin 26) (b : Fin 4096) (k : Fin 1024) : S26x4096x1024.Idx := fun a => match a with | ⟨0, _⟩ => n | ⟨1, _⟩ => b | ⟨2, _⟩ => k
def xat (b : Fin 4096) (k : Fin 1024) : S4096x1024.Idx := fun a => match a with | ⟨0, _⟩ => b | ⟨1, _⟩ => k
def hat (b : Fin 4096) (n : Fin 26) : S4096x26.Idx := fun a => match a with | ⟨0, _⟩ => b | ⟨1, _⟩ => n
def wat (n : Fin 26) (k : Fin 1088) (l : Fin 64) : S26x1088x64.Idx := fun a => match a with | ⟨0, _⟩ => n | ⟨1, _⟩ => k | ⟨2, _⟩ => l
def bat (n : Fin 26) (l : Fin 64) : S26x64.Idx := fun a => match a with | ⟨0, _⟩ => n | ⟨1, _⟩ => l

/-- The rows of the weights: the features' and the categories'. -/
def wfeat (k : Fin 1024) : Fin 1088 := ⟨k.val, by omega⟩
def wcat (j : Fin 64) : Fin 1088 := ⟨1024 + j.val, by omega⟩

variable (x0 : S4096x1024.Idx → EReal) (x1 : S4096x26.Idx → BitVec 32) (x2 : S26x1088x64.Idx → EReal) (x3 : S26x64.Idx → EReal)

/-- The logit of item `n`, example `b` and category `l`. -/
def logitOf (n : Fin 26) (b : Fin 4096) (l : Fin 64) : EReal :=
  logit (fun k => x0 (xat b k)) (fun k => x2 (wat n (wfeat k) l)) (x1 (hat b n)) (fun j => x2 (wat n (wcat j) l)) (x3 (bat n l))

theorem word_eq (p q : BitVec 32) : (((BitVec.ofBool (p == q)).toNat : ℝ) : EReal) = ((if p = q then 1 else 0 : ℝ) : EReal) := by
  by_cases e : p = q
  · subst e; simp
  · simp [e]

theorem hot_at (b : Fin 4096) (n : Fin 26) (j : Fin 64) : st_v3 (F := Ideal) x1 (tix n b j) = hot (x1 (hat b n)) j := by
  rw [st_v3_apply, st_v0_apply, hot_v4_apply, hot_v2_apply, hot_v0_apply, hot_v3_apply, hot_v1_apply]
  refine (word_eq _ _).trans ?_
  rw [hot]
  have e : idx_hot_v0 (idx_hot_v2 (ix_v3 (tix n b j))) = hat b n := funext fun a => match a with | ⟨0, _⟩ => rfl | ⟨1, _⟩ => rfl
  rw [e]
  rfl

theorem join_left (n : Fin 26) (b : Fin 4096) (l : Fin 64) (k : Fin 1024) : st_v4 (F := Ideal) x0 x1 (lix_v5 (tix n b l) (wfeat k)) = x0 (xat b k) := by
  unfold st_v4
  refine (concatenate_pair_apply_left (t := S26x4096x1088) 2 (st_v2 (F := Ideal) x0) (st_v3 (F := Ideal) x1) _ (lix_v5 (tix n b l) (wfeat k)) rfl (fix n b k) (fun a => ?_)).trans ?_
  · match a with
    | ⟨0, _⟩ => rfl
    | ⟨1, _⟩ => rfl
    | ⟨2, _⟩ => rfl
  · rw [st_v2_apply, st_v1_apply]
    exact congrArg x0 (funext fun a => match a with | ⟨0, _⟩ => rfl | ⟨1, _⟩ => rfl)

theorem join_right (n : Fin 26) (b : Fin 4096) (l : Fin 64) (j : Fin 64) : st_v4 (F := Ideal) x0 x1 (lix_v5 (tix n b l) (wcat j)) = hot (x1 (hat b n)) j := by
  unfold st_v4
  refine (concatenate_pair_apply_right (t := S26x4096x1088) 2 (st_v2 (F := Ideal) x0) (st_v3 (F := Ideal) x1) _ (lix_v5 (tix n b l) (wcat j)) rfl rfl (tix n b j) (fun a ha => ?_) ?_).trans (hot_at x1 b n j)
  · match a with
    | ⟨0, _⟩ => rfl
    | ⟨1, _⟩ => rfl
    | ⟨2, _⟩ => exact absurd rfl ha
  · show j.val + 1024 = 1024 + j.val
    exact Nat.add_comm _ _

theorem logits_at (n : Fin 26) (b : Fin 4096) (l : Fin 64) : logits (F := Ideal) x0 x1 x2 x3 (tix n b l) = logitOf x0 x1 x2 x3 n b l := by
  rw [logits_apply, st_v5_apply, st_v7_apply, st_v6_apply]
  show (∑ k : Fin 1088, _ : EReal) + _ = _
  have er : ∀ k, rix_v5 (tix n b l) k = wat n k l := fun k => funext fun a => match a with | ⟨0, _⟩ => rfl | ⟨1, _⟩ => rfl | ⟨2, _⟩ => rfl
  have eb : ix_v6 (ix_v7 (tix n b l)) = bat n l := funext fun a => match a with | ⟨0, _⟩ => rfl | ⟨1, _⟩ => rfl
  rw [eb, logitOf, logit]
  congr 1
  refine (Fin.sum_univ_add (a := 1024) (b := 64) _).trans ?_
  congr 1
  · refine Finset.sum_congr rfl fun k _ => ?_
    rw [er]
    exact congrArg (· * _) (join_left x0 x1 n b l k)
  · refine Finset.sum_congr rfl fun j _ => ?_
    rw [er]
    exact congrArg (· * _) (join_right x0 x1 n b l j)

end Cert.RefRun
-- ==== Proof.HostAt.lean ====
/-
  The arrays the host hands the kernel, entry by entry.
-/
module

public import proofs.«01_k».proof.Proof.Host
public import proofs.«01_k».proof.Proof.LogitAt

@[expose] public section

noncomputable section

namespace Cert.Host

open Cert.KernelIdeal Cert.KernelIdeal.Gen Idealize.ShloMosaic Idealize.ShloMosaic.TcCoe Idealize.SL.Sem
open Idealize.ShloMosaic.Routing
open Cert.Pair (lane)
open Cert.RefRun (wat bat wfeat wcat)

/-- Item `h` of pair `p`. -/
def item (p : Fin 13) (h : Fin 2) : Fin 26 := ⟨2 * p.val + h.val, by omega⟩

/-- Pair `p`'s column `64 h + l`. -/
def col (p : Fin 13) (q : Fin 128) : Fin 1664 := ⟨128 * p.val + q.val, by omega⟩

def tx (k : Fin 1024) (q : Fin 1664) : S1024x1664.Idx := fun a => match a with | ⟨0, _⟩ => k | ⟨1, _⟩ => q
def t2 (k : Fin 1088) (q : Fin 1664) : S1088x1664.Idx := fun a => match a with | ⟨0, _⟩ => k | ⟨1, _⟩ => q
def t3 (k : Fin 1088) (n : Fin 26) (l : Fin 64) : S1088x26x64.Idx := fun a => match a with | ⟨0, _⟩ => k | ⟨1, _⟩ => n | ⟨2, _⟩ => l
def bx (q : Fin 1664) : S1x1664.Idx := fun a => match a with | ⟨0, _⟩ => (0 : Fin 1) | ⟨1, _⟩ => q
def dx (p : Fin 13) (q q' : Fin 128) : S13x128x128.Idx := fun a => match a with | ⟨0, _⟩ => p | ⟨1, _⟩ => q | ⟨2, _⟩ => q'
def ux (p : Fin 13) (j l : Fin 64) : S13x64x64.Idx := fun a => match a with | ⟨0, _⟩ => p | ⟨1, _⟩ => j | ⟨2, _⟩ => l

section
variable {α : Type} (W : S26x1088x64.Idx → EReal) (b : S26x64.Idx → EReal)

theorem wtop_at (k : Fin 1024) (p : Fin 13) (h : Fin 2) (l : Fin 64) :
    wtop (F := Ideal) W (tx k (col p (lane h l))) = W (wat (item p h) (wfeat k) l) := by
  show shapeCast S1088x1664 (transpose S1088x26x64 [1, 0, 2] W transposes_S26x1088x64_S1088x26x64_1_0_2) shapeCasts_S1088x26x64_S1088x1664 _ = _
  refine (shapeCast_apply _ _ _ (t3 (wfeat k) (item p h) l) ?_).trans ?_
  · rw [Shape.rowMajor_val_three, Shape.rowMajor_val_two]
    simp [t3, tx, col, item, lane, wfeat]
    omega
  · exact transpose_apply _ _ _ _ (wat (item p h) (wfeat k) l) (fun b => match b with | ⟨0, _⟩ => rfl | ⟨1, _⟩ => rfl | ⟨2, _⟩ => rfl)

theorem bias_at (p : Fin 13) (h : Fin 2) (l : Fin 64) : bias (F := Ideal) b (bx (col p (lane h l))) = b (bat (item p h) l) := by
  refine shapeCast_apply _ _ _ (bat (item p h) l) ?_
  rw [Shape.rowMajor_val_two, Shape.rowMajor_val_two]
  simp [bx, col, item, lane, bat]
  omega

theorem wbot_even (p : Fin 13) (j l : Fin 64) :
    Host.slice S13x64x64 ![0, 0, 0] ![2, 1, 1] (wbot (F := Ideal) W) slicesBy_S26x64x64_S13x64x64_0s2_0s1_0s1 (ux p j l) = W (wat (item p 0) (wcat j) l) := by
  refine congrArg W (funext fun a => Fin.ext ?_)
  match a with
  | ⟨0, _⟩ => show 0 + (0 + 2 * p.val) = 2 * p.val + 0; omega
  | ⟨1, _⟩ => show 1024 + (0 + 1 * j.val) = 1024 + j.val; omega
  | ⟨2, _⟩ => show 0 + (0 + 1 * l.val) = l.val; omega

theorem wbot_odd (p : Fin 13) (j l : Fin 64) :
    Host.slice S13x64x64 ![1, 0, 0] ![2, 1, 1] (wbot (F := Ideal) W) slicesBy_S26x64x64_S13x64x64_1s2_0s1_0s1 (ux p j l) = W (wat (item p 1) (wcat j) l) := by
  refine congrArg W (funext fun a => Fin.ext ?_)
  match a with
  | ⟨0, _⟩ => show 0 + (1 + 2 * p.val) = 2 * p.val + 1; omega
  | ⟨1, _⟩ => show 1024 + (0 + 1 * j.val) = 1024 + j.val; omega
  | ⟨2, _⟩ => show 0 + (0 + 1 * l.val) = l.val; omega

theorem corner_at (w : BitVec 32) (q : S2.Idx) : corner w q = w := by
  have hq : (q 0).val < 2 := (q 0).isLt
  have o : S1.Idx := fun a => match a with | ⟨0, _⟩ => (0 : Fin 1)
  have ho : (o 0).val = 0 := by have : (o 0).val < 1 := (o 0).isLt; omega
  by_cases e : (q 0).val = 0
  · refine (concatenate_pair_apply_left (t := S2) (s₁ := S1) (s₂ := S1) 0 _ _ _ q rfl o (fun a => ?_)).trans rfl
    match a with | ⟨0, _⟩ => exact ho.trans e.symm
  · refine (concatenate_pair_apply_right (t := S2) (s₁ := S1) (s₂ := S1) 0 _ _ _ q rfl rfl o (fun a ha => ?_) ?_).trans rfl
    · match a with | ⟨0, _⟩ => exact absurd rfl ha
    · show (o 0).val + 1 = (q 0).val
      omega

theorem ux_eta (k : S13x64x64.Idx) : ∃ p j l, k = ux p j l :=
  ⟨k 0, k 1, k 2, funext fun a => match a with | ⟨0, _⟩ => rfl | ⟨1, _⟩ => rfl | ⟨2, _⟩ => rfl⟩

/-- An update lands at its own coordinates, moved by the corner's word on the last two axes. -/
theorem lands (w : BitVec 32) (o : Nat) (ho : w.toInt = (o : Int)) (p p' : Fin 13) (j l : Fin 64) (q q' : Fin 128) :
    scatter_S13x128x128_S2_S13x64x64_012_n_12_0.resultIdx? (ux p j l) (corner w) = some (dx p' q q')
      ↔ p = p' ∧ o + j.val = q.val ∧ o + l.val = q'.val := by
  have s0 : scatter_S13x128x128_S2_S13x64x64_012_n_12_0.start (ux p j l) (corner w) 0 = 0 := by
    unfold ScatterDims.start; rw [dif_neg (by decide)]
  have s1 : scatter_S13x128x128_S2_S13x64x64_012_n_12_0.start (ux p j l) (corner w) 1 = o := by
    unfold ScatterDims.start; rw [dif_pos (by decide), corner_at, ho]
  have s2 : scatter_S13x128x128_S2_S13x64x64_012_n_12_0.start (ux p j l) (corner w) 2 = o := by
    unfold ScatterDims.start; rw [dif_pos (by decide), corner_at, ho]
  have w0 : scatter_S13x128x128_S2_S13x64x64_012_n_12_0.window (ux p j l) 0 = p.val := by
    unfold ScatterDims.window; rw [dif_pos (by decide)]; rfl
  have w1 : scatter_S13x128x128_S2_S13x64x64_012_n_12_0.window (ux p j l) 1 = j.val := by
    unfold ScatterDims.window; rw [dif_pos (by decide)]; rfl
  have w2 : scatter_S13x128x128_S2_S13x64x64_012_n_12_0.window (ux p j l) 2 = l.val := by
    unfold ScatterDims.window; rw [dif_pos (by decide)]; rfl
  rw [resultIdx?_eq_some]
  constructor
  · intro h
    have h0 := h 0
    have h1 := h 1
    have h2 := h 2
    rw [s0, w0] at h0
    rw [s1, w1] at h1
    rw [s2, w2] at h2
    change (0 : Int) + (p.val : Int) = (p'.val : Int) at h0
    change (o : Int) + (j.val : Int) = (q.val : Int) at h1
    change (o : Int) + (l.val : Int) = (q'.val : Int) at h2
    exact ⟨Fin.ext (by omega), by omega, by omega⟩
  · rintro ⟨e0, e1, e2⟩ a
    match a with
    | ⟨0, _⟩ =>
      refine (congrArg₂ (fun (x : Int) (y : Nat) => x + (y : Int)) s0 w0).trans ?_
      show (0 : Int) + (p.val : Int) = (p'.val : Int)
      rw [e0]; omega
    | ⟨1, _⟩ =>
      refine (congrArg₂ (fun (x : Int) (y : Nat) => x + (y : Int)) s1 w1).trans ?_
      show (o : Int) + (j.val : Int) = (q.val : Int)
      omega
    | ⟨2, _⟩ =>
      refine (congrArg₂ (fun (x : Int) (y : Nat) => x + (y : Int)) s2 w2).trans ?_
      show (o : Int) + (l.val : Int) = (q'.val : Int)
      omega

/-- A scatter into a corner: inside it the update, elsewhere the old table. -/
theorem into (w : BitVec 32) (o : Nat) (ho : w.toInt = (o : Int)) (x : S13x128x128.Idx → EReal) (u : S13x64x64.Idx → EReal)
    (p : Fin 13) (j l : Fin 64) (q q' : Fin 128) (e1 : o + j.val = q.val) (e2 : o + l.val = q'.val) :
    Host.scatter scatter_S13x128x128_S2_S13x64x64_012_n_12_0 (fun _ b => b) x (corner w) u (dx p q q') = u (ux p j l) := by
  refine scatter_set_hit _ x _ u _ _ (fun k hk => ?_) (ux p j l) ((lands w o ho p p j l q q').2 ⟨rfl, e1, e2⟩)
  obtain ⟨p', j', l', rfl⟩ := ux_eta k
  obtain ⟨h0, h1, h2⟩ := (lands w o ho p' p j' l' q q').1 hk
  rw [h0, Fin.ext (show j'.val = j.val by omega), Fin.ext (show l'.val = l.val by omega)]

theorem outside (w : BitVec 32) (o : Nat) (ho : w.toInt = (o : Int)) (x : S13x128x128.Idx → EReal) (u : S13x64x64.Idx → EReal)
    (p : Fin 13) (q q' : Fin 128) (e : ∀ j l : Fin 64, o + j.val = q.val → o + l.val = q'.val → False) :
    Host.scatter scatter_S13x128x128_S2_S13x64x64_012_n_12_0 (fun _ b => b) x (corner w) u (dx p q q') = x (dx p q q') := by
  refine scatter_set_miss _ x _ u _ (fun k hk => ?_)
  obtain ⟨p', j', l', rfl⟩ := ux_eta k
  obtain ⟨h0, h1, h2⟩ := (lands w o ho p' p j' l' q q').1 hk
  exact e _ _ h1 h2

theorem wbd_at (p : Fin 13) (h' h : Fin 2) (j l : Fin 64) :
    wbd (F := Ideal) W (dx p (lane h' j) (lane h l)) = if h' = h then W (wat (item p h) (wcat j) l) else 0 := by
  have z0 : (0#32 : BitVec 32).toInt = ((0 : Nat) : Int) := by decide
  have z1 : (64#32 : BitVec 32).toInt = ((64 : Nat) : Int) := by decide
  have hz : ∀ i, zeros (F := Ideal) i = 0 := fun i => Ideal.ofBits_zero_f32
  have c : ∀ h : Fin 2, h = 0 ∨ h = 1 := by decide
  unfold wbd
  rcases c h' with rfl | rfl <;> rcases c h with rfl | rfl
  · rw [if_pos rfl]
    refine (outside _ 64 z1 _ _ _ _ _ fun j' l' a b => ?_).trans ((into _ 0 z0 _ _ p j l _ _ ?_ ?_).trans (wbot_even W p j l))
    · simp [lane] at a; omega
    · simp [lane]
    · simp [lane]
  · rw [if_neg (by decide)]
    refine (outside _ 64 z1 _ _ _ _ _ fun j' l' a b => ?_).trans ((outside _ 0 z0 _ _ _ _ _ fun j' l' a b => ?_).trans (hz _))
    · simp [lane] at a; omega
    · simp [lane] at b; omega
  · rw [if_neg (by decide)]
    refine (outside _ 64 z1 _ _ _ _ _ fun j' l' a b => ?_).trans ((outside _ 0 z0 _ _ _ _ _ fun j' l' a b => ?_).trans (hz _))
    · simp [lane] at b; omega
    · simp [lane] at a; omega
  · rw [if_pos rfl]
    refine (into _ 64 z1 _ _ p j l _ _ ?_ ?_).trans (wbot_odd W p j l)
    · simp [lane]
    · simp [lane]

end

end Cert.Host
-- ==== Proof.Pieces.lean ====
/-
  The stores of one run of the body are those of the pairs, and what they leave in the two output blocks.
-/
module

public import proofs.«01_k».proof.Proof.Pair

@[expose] public section

set_option maxRecDepth 16384

noncomputable section

namespace Cert.Pair

open Cert.KernelIdeal Cert.KernelIdeal.Gen Idealize.ShloMosaic Idealize.ShloMosaic.TcCoe Idealize.ShloMosaic.Tactic Idealize.SL.Sem

variable {F : FTy → Type} [FloatOps F] [Named F]
variable (c : Dev nD) (i : grid0.Coords) (arg1 : Memref sig .tc .vmem S512x1024 .f32) (harg1 : arg1.IsWhole) (arg2 : Memref sig .tc .vmem S512x26 .i32) (harg2 : arg2.IsWhole) (arg3 : Memref sig .tc .vmem S1024x1664 .f32) (harg3 : arg3.IsWhole) (arg4 : Memref sig .tc .vmem S13x128x128 .f32) (harg4 : arg4.IsWhole) (arg5 : Memref sig .tc .vmem S1x1664 .f32) (harg5 : arg5.IsWhole) (arg6 : Memref sig .tc .vmem S512x26 .i32) (harg6 : arg6.IsWhole) (arg7 : Memref sig .tc .vmem S1x1 .f32) (harg7 : arg7.IsWhole)
variable (x0 : Vec F S512x1024 .f32) (x1 : Vec F S512x26 .i32) (x2 : Vec F S1024x1664 .f32) (x3 : Vec F S13x128x128 .f32) (x4 : Vec F S1x1664 .f32)

/-- The first point's stores of the choices. -/
theorem pieces_A (hc0 : cond0_0 i) :
    (kernelRun0_A c i arg1 harg1 arg2 harg2 arg3 harg3 arg4 harg4 arg5 harg5 arg6 harg6 arg7 harg7 hc0 x0 x1 x2 x3 x4).1 = pcs x0 x1 x2 x3 x4 := by
  have e : (kernelRun0_A c i arg1 harg1 arg2 harg2 arg3 harg3 arg4 harg4 arg5 harg5 arg6 harg6 arg7 harg7 hc0 x0 x1 x2 x3 x4).1
      = pcs (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) := by sl_kernel_rfl
  rw [e]; simp only [Memref.IsWhole.read_unread]

/-- Every other point's. -/
theorem pieces_B (hc0 : ¬cond0_0 i) (xo6 : Vec F S1x1 .f32) :
    (kernelRun0_B c i arg1 harg1 arg2 harg2 arg3 harg3 arg4 harg4 arg5 harg5 arg6 harg6 arg7 harg7 hc0 x0 x1 x2 x3 x4 xo6).1 = pcs x0 x1 x2 x3 x4 := by
  have e : (kernelRun0_B c i arg1 harg1 arg2 harg2 arg3 harg3 arg4 harg4 arg5 harg5 arg6 harg6 arg7 harg7 hc0 x0 x1 x2 x3 x4 xo6).1
      = pcs (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) := by sl_kernel_rfl
  rw [e]; simp only [Memref.IsWhole.read_unread]

theorem inbO : ∀ a, (![0, 0] : Fin 2 → ℕ) a + S1x1.size a ≤ S1x1.size a := by
  intro a; fin_cases a <;> exact le_refl 1

theorem zero2 : (![0, 0] : Fin 2 → ℕ) = fun _ => 0 := by
  funext a; fin_cases a <;> rfl

/-- The first point's entropy block: zero, then less the sum. -/
theorem ent_A (hc0 : cond0_0 i) :
    out0_A_6 c i arg1 harg1 arg2 harg2 arg3 harg3 arg4 harg4 arg5 harg5 arg6 harg6 arg7 harg7 hc0 x0 x1 x2 x3 x4 = k0_pay3 (total x0 x1 x2 x3 x4) k0_pay2 := by
  have e : (kernelRun0_A c i arg1 harg1 arg2 harg2 arg3 harg3 arg4 harg4 arg5 harg5 arg6 harg6 arg7 harg7 hc0 x0 x1 x2 x3 x4).2.1
      = [⟨Rect.unit ![0, 0] S1x1.size inbO, k0_pay3 (total (arg1.view.read (Elt F) (harg1.unread x0)) (arg2.view.read (Elt F) (harg2.unread x1)) (arg3.view.read (Elt F) (harg3.unread x2)) (arg4.view.read (Elt F) (harg4.unread x3)) (arg5.view.read (Elt F) (harg5.unread x4)))
          (arg7.view.readCov [(⟨Rect.unit ![0, 0] S1x1.size inbO, k0_pay2⟩ : View.Piece (Elt F) S1x1 .f32)] (Rect.unit ![0, 0] S1x1.size inbO).toLoadRect)⟩,
         ⟨Rect.unit ![0, 0] S1x1.size inbO, k0_pay2⟩] := by sl_kernel_rfl
  unfold out0_A_6
  rw [View.read_writes_junk_eq_canon, e, View.canon_cons_unit_zero zero2, View.readCov_unit_zero _ zero2]
  simp only [Memref.IsWhole.read_unread]

/-- Every other point's: what the point before left, less the sum. -/
theorem ent_B (hc0 : ¬cond0_0 i) (xo6 : Vec F S1x1 .f32) :
    out0_B_6 c i arg1 harg1 arg2 harg2 arg3 harg3 arg4 harg4 arg5 harg5 arg6 harg6 arg7 harg7 hc0 x0 x1 x2 x3 x4 xo6 = k0_pay3 (total x0 x1 x2 x3 x4) xo6 := by
  have e : (kernelRun0_B c i arg1 harg1 arg2 harg2 arg3 harg3 arg4 harg4 arg5 harg5 arg6 harg6 arg7 harg7 hc0 x0 x1 x2 x3 x4 xo6).2.1
      = [⟨Rect.unit ![0, 0] S1x1.size inbO, k0_pay3 (total (arg1.view.read (Elt F) (harg1.unread x0)) (arg2.view.read (Elt F) (harg2.unread x1)) (arg3.view.read (Elt F) (harg3.unread x2)) (arg4.view.read (Elt F) (harg4.unread x3)) (arg5.view.read (Elt F) (harg5.unread x4)))
          (View.ld (arg7.view.read (Elt F) (harg7.unread xo6)) (Rect.unit ![0, 0] S1x1.size inbO))⟩] := by sl_kernel_rfl
  unfold out0_B_6
  rw [View.read_writes_junk_eq_canon, e, View.canon_unit_zero zero2, View.ld_unit_zero zero2]
  simp only [Memref.IsWhole.read_unread]

/-- The choices, by row and item. -/
def choice (j : S512x26.Idx) : BitVec 32 :=
  let r : S512x1.Idx := fun a => match a with | ⟨0, _⟩ => j 0 | ⟨1, _⟩ => ⟨0, Nat.one_pos⟩
  let k : Fin 13 := ⟨(j 1).val / 2, by have h : (j 1).val < 26 := (j 1).isLt; omega⟩
  if (j 1).val % 2 = 0 then colA (acc x0 x1 x2 x3 x4 k) r else colB (acc x0 x1 x2 x3 x4 k) r

theorem choice_A (j : S512x26.Idx) (k : Fin 13) (x : S512x1.Idx) (e0 : (j 0).val = (x 0).val) (e : (j 1).val = 2 * k.val) :
    choice x0 x1 x2 x3 x4 j = colA (acc x0 x1 x2 x3 x4 k) x := by
  have h1 : (x 1).val = 0 := by have h : (x 1).val < 1 := (x 1).isLt; omega
  unfold choice
  rw [if_pos (by omega)]
  exact congr (congrArg (fun q => colA (acc x0 x1 x2 x3 x4 q)) (Fin.ext (by show (j 1).val / 2 = _; omega)))
    (funext fun a => Fin.ext (match a with
    | ⟨0, _⟩ => e0
    | ⟨1, _⟩ => h1.symm))

theorem choice_B (j : S512x26.Idx) (k : Fin 13) (x : S512x1.Idx) (e0 : (j 0).val = (x 0).val) (e : (j 1).val = 2 * k.val + 1) :
    choice x0 x1 x2 x3 x4 j = colB (acc x0 x1 x2 x3 x4 k) x := by
  have h1 : (x 1).val = 0 := by have h : (x 1).val < 1 := (x 1).isLt; omega
  unfold choice
  rw [if_neg (by omega)]
  exact congr (congrArg (fun q => colB (acc x0 x1 x2 x3 x4 q)) (Fin.ext (by show (j 1).val / 2 = _; omega)))
    (funext fun a => Fin.ext (match a with
    | ⟨0, _⟩ => e0
    | ⟨1, _⟩ => h1.symm))

attribute [local irreducible] choice colA colB acc

theorem emb_A (k : Fin 13) (x : S512x1.Idx) :
    choice x0 x1 x2 x3 x4 ((Rect.unit ![0, (itA k).val] S512x1.size (inbC (itA k)) : Rect S512x26).emb x) = colA (acc x0 x1 x2 x3 x4 k) x := by
  refine choice_A x0 x1 x2 x3 x4 _ k x ?_ ?_
  · exact (Nat.zero_add _).trans (Nat.one_mul _)
  · have h1 : (x 1).val = 0 := by have h : (x 1).val < 1 := (x 1).isLt; omega
    exact congrArg ((itA k).val + ·) ((Nat.one_mul (x 1).val).trans h1)

theorem emb_B (k : Fin 13) (x : S512x1.Idx) :
    choice x0 x1 x2 x3 x4 ((Rect.unit ![0, (itB k).val] S512x1.size (inbC (itB k)) : Rect S512x26).emb x) = colB (acc x0 x1 x2 x3 x4 k) x := by
  refine choice_B x0 x1 x2 x3 x4 _ k x ?_ ?_
  · exact (Nat.zero_add _).trans (Nat.one_mul _)
  · have h1 : (x 1).val = 0 := by have h : (x 1).val < 1 := (x 1).isLt; omega
    exact congrArg ((itB k).val + ·) ((Nat.one_mul (x 1).val).trans h1)

/-- A store that writes its part of the table of choices. -/
def Agrees (p : View.Piece (Elt F) S512x26 .i32) : Prop := ∀ x : p.1.shape.Idx, p.2 x = choice x0 x1 x2 x3 x4 (p.1.emb x)

theorem agrees_A (k : Fin 13) : Agrees x0 x1 x2 x3 x4 (pcA x0 x1 x2 x3 x4 k) := by
  unfold Agrees pcA
  dsimp only
  exact fun x => (emb_A x0 x1 x2 x3 x4 k x).symm

theorem agrees_B (k : Fin 13) : Agrees x0 x1 x2 x3 x4 (pcB x0 x1 x2 x3 x4 k) := by
  unfold Agrees pcB
  dsimp only
  exact fun x => (emb_B x0 x1 x2 x3 x4 k x).symm

/-- Every store does. -/
theorem pcs_choice : ∀ p ∈ pcs x0 x1 x2 x3 x4, Agrees x0 x1 x2 x3 x4 p := by
  have a := agrees_A x0 x1 x2 x3 x4
  have b := agrees_B x0 x1 x2 x3 x4
  unfold pcs
  dsimp only
  intro p hp
  simp only [List.mem_cons, List.not_mem_nil, or_false] at hp
  rcases hp with h | h | h | h | h | h | h | h | h | h | h | h | h | h | h | h | h | h | h | h | h | h | h | h | h | h <;> rw [h]
  all_goals first | exact a _ | exact b _

theorem choices_A (hc0 : cond0_0 i) :
    out0_A_5 c i arg1 harg1 arg2 harg2 arg3 harg3 arg4 harg4 arg5 harg5 arg6 harg6 arg7 harg7 hc0 x0 x1 x2 x3 x4 = choice x0 x1 x2 x3 x4 := by
  funext y
  unfold out0_A_5
  rw [View.read_writes_junk_eq_canon]
  refine View.canon_apply_of_pieces (choice x0 x1 x2 x3 x4) _ ?_ y (cover0_A_5 c i arg1 harg1 arg2 harg2 arg3 harg3 arg4 harg4 arg5 harg5 arg6 harg6 arg7 harg7 hc0 x0 x1 x2 x3 x4 y)
  rw [pieces_A]; exact pcs_choice x0 x1 x2 x3 x4

theorem choices_B (hc0 : ¬cond0_0 i) (xo6 : Vec F S1x1 .f32) :
    out0_B_5 c i arg1 harg1 arg2 harg2 arg3 harg3 arg4 harg4 arg5 harg5 arg6 harg6 arg7 harg7 hc0 x0 x1 x2 x3 x4 xo6 = choice x0 x1 x2 x3 x4 := by
  funext y
  unfold out0_B_5
  rw [View.read_writes_junk_eq_canon]
  refine View.canon_apply_of_pieces (choice x0 x1 x2 x3 x4) _ ?_ y (cover0_B_5 c i arg1 harg1 arg2 harg2 arg3 harg3 arg4 harg4 arg5 harg5 arg6 harg6 arg7 harg7 hc0 x0 x1 x2 x3 x4 xo6 y)
  rw [pieces_B]; exact pcs_choice x0 x1 x2 x3 x4

end Cert.Pair
-- ==== Proof.KRun.lean ====
/-
  The kernel's run with its results named: what each grid point writes back, and what the host reads of it.
-/
module

public import proofs.«01_k».proof.Proof.Pieces
public import Idealize.ShloMosaic.Lib.Pipeline.Value

@[expose] public section

noncomputable section

namespace Cert.KRun

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What a point writes back to the choices' array. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- What a point writes back to the entropy's. -/
theorem flushed6 (c : Dev nD) (t : Fin cfg0.N) :
    (dats m 0 c).flushed 6 t = (cfg0.win 6).cut (grid0.coords t) ((outsAt0 m c t.val t.isLt).2) := by
  show (cfg0.win 6).cut (grid0.coords t) ((dats m 0 c).after 6 t) = _
  rw [after0_6]

/-- Distinct points write distinct blocks of choices. -/
theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- So the final array's block at a point is what the point wrote. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- The entropy as the host returns it. -/
def scalarOf (x : S1x1.Idx → F .f32) : S_.Idx → F .f32 := shapeCast S_ x shapeCasts_S1x1_S_

theorem run : θ_run defs (onTc (τ := τ) (main (F := F))) ⟨m, fun _ => 0, ρ⟩ fun r => ∀ c : Dev nD,
      r.2.mem ((c : Thread nD τ).loc main_v16_0) = (dats m 0 c).arrAt 5 cfg0.N
      ∧ r.2.mem ((c : Thread nD τ).loc main_v17) = scalarOf ((dats m 0 c).arrAt 6 cfg0.N)
      ∧ r.2.mem ((c : Thread nD τ).loc main_c_3) = constantI S_ 32 106496#32
      ∧ r.2.mem ((c : Thread nD τ).loc main_c_4) = constantI S_ 32 106496#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      ((h c).2 main_v17 (Pipeline.mem_restRefs_of main_v17 (by decide) (by decide))).trans (by
        unfold Pipeline.afterTail₀
        simp only [hostOps1, List.flatten_cons, List.flatten_nil, List.append_nil]
        after_results_simp
        exact congrArg scalarOf (Pipeline.withArrays_arr spec0 launch0.win.arr_inj c (V0 m c) _ 6)),
      ((h c).2 main_c_3 (Pipeline.mem_restRefs_of main_c_3 (by decide) (by decide))).trans (by
        unfold Pipeline.afterTail₀
        simp only [hostOps1, List.flatten_cons, List.flatten_nil, List.append_nil]
        after_results_simp <;> rfl),
      ((h c).2 main_c_4 (Pipeline.mem_restRefs_of main_c_4 (by decide) (by decide))).trans (by
        unfold Pipeline.afterTail₀
        simp only [hostOps1, List.flatten_cons, List.flatten_nil, List.append_nil]
        after_results_simp <;> rfl),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KRun
-- ==== Proof.BlockAt.lean ====
/-
  The blocks a grid point reads, entry by entry: 512 rows of the features and of the proposals, and the weights and
  biases whole.
-/
module

public import proofs.«01_k».proof.Proof.HostAt
public import proofs.«01_k».proof.Proof.KRun
public import Idealize.ShloMosaic.Lib.Pipeline.ValueKit.Point

@[expose] public section

noncomputable section

namespace Cert.KRun

open Cert.KernelIdeal Cert.KernelIdeal.Gen Idealize.ShloMosaic Idealize.ShloMosaic.TcCoe Idealize.SL.Sem
open Cert.Pair (lane rl rc xix wix dix1 six rdX rdW rdH rdD rdS itA itB acc logit)
open Cert.RefRun (wat bat xat hat wfeat wcat logitOf)
open Cert.Host (item col tx bx dx wtop wbd bias)

variable (m : (ℓ : Loc nD τ sig) → Buf (Elt Ideal) ℓ) (c : Dev nD)

/-- Example `r` of point `t`'s block. -/
def row (t : Fin 8) (r : Fin 512) : Fin 4096 := ⟨512 * t.val + r.val, by omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

theorem readX (t : Fin cfg0.N) (r : Fin 512) (k : Fin 1024) :
    rdX (F := Ideal) (iblk m c 0 t) (xix r k) = m ((c : Thread nD τ).loc main_arg0) (xat (row t r) k) := by
  rw [← V_main_arg0 m c]
  unfold rdX
  refine congrArg (V m c main_arg0) (funext fun a => Fin.ext ?_)
  have e := idx0 t
  match a with
  | ⟨0, _⟩ => blk_simp [e]; show t.val * 512 + (0 + 1 * r.val) = 512 * t.val + r.val; omega
  | ⟨1, _⟩ => blk_simp [e]; show 0 + 1 * k.val = k.val; omega

theorem readH (t : Fin cfg0.N) (r : Fin 512) (i : Fin 26) :
    rdH (F := Ideal) (iblk m c 1 t) i (rc r) = m ((c : Thread nD τ).loc main_arg1) (hat (row t r) i) := by
  rw [← V_main_arg1 m c]
  unfold rdH
  refine congrArg (V m c main_arg1) (funext fun a => Fin.ext ?_)
  have e := idx1 t
  match a with
  | ⟨0, _⟩ => blk_simp [e]; show t.val * 512 + (0 + 1 * r.val) = 512 * t.val + r.val; omega
  | ⟨1, _⟩ => blk_simp [e]; show i.val + 1 * 0 = i.val; omega

theorem readW (t : Fin cfg0.N) (p : Fin 13) (k : Fin 1024) (q : Fin 128) :
    rdW (F := Ideal) (iblk m c 2 t) p (wix k q) = wtop (F := Ideal) (m ((c : Thread nD τ).loc main_arg2)) (tx k (col p q)) := by
  rw [← Host.V_wtop m c]
  unfold rdW
  refine congrArg (V m c main_v2) (funext fun a => Fin.ext ?_)
  have e := idx2 t
  match a with
  | ⟨0, _⟩ => blk_simp [e]; show 0 + 1 * k.val = k.val; omega
  | ⟨1, _⟩ => blk_simp [e]; show 128 * p.val + 1 * q.val = 128 * p.val + q.val; omega

theorem readD (t : Fin cfg0.N) (p : Fin 13) (q q' : Fin 128) :
    rdD (F := Ideal) (iblk m c 3 t) p (dix1 q q') = wbd (F := Ideal) (m ((c : Thread nD τ).loc main_arg2)) (dx p q q') := by
  rw [← Host.V_wbd m c]
  unfold rdD
  refine congrArg (V m c main_v14) (funext fun a => Fin.ext ?_)
  have e := idx3 t
  match a with
  | ⟨0, _⟩ => blk_simp [e]; show p.val + 1 * 0 = p.val; omega
  | ⟨1, _⟩ => blk_simp [e]; show 0 + 1 * q.val = q.val; omega
  | ⟨2, _⟩ => blk_simp [e]; show 0 + 1 * q'.val = q'.val; omega

theorem readS (t : Fin cfg0.N) (p : Fin 13) (q : Fin 128) :
    rdS (F := Ideal) (iblk m c 4 t) p (six q) = bias (F := Ideal) (m ((c : Thread nD τ).loc main_arg3)) (bx (col p q)) := by
  rw [← Host.V_bias m c]
  unfold rdS
  refine congrArg (V m c main_v15) (funext fun a => Fin.ext ?_)
  have e := idx4 t
  match a with
  | ⟨0, _⟩ => blk_simp [e]
  | ⟨1, _⟩ => blk_simp [e]; show 128 * p.val + 1 * q.val = 128 * p.val + q.val; omega

/-- A pair's logits are the reference's, for the point's rows and the pair's two items. -/
theorem acc_at (t : Fin cfg0.N) (p : Fin 13) (h : Fin 2) (r : Fin 512) (l : Fin 64) :
    acc (F := Ideal) (iblk m c 0 t) (iblk m c 1 t) (iblk m c 2 t) (iblk m c 3 t) (iblk m c 4 t) p (rl r (lane h l))
      = logitOf (m ((c : Thread nD τ).loc main_arg0)) (m ((c : Thread nD τ).loc main_arg1)) (m ((c : Thread nD τ).loc main_arg2))
          (m ((c : Thread nD τ).loc main_arg3)) (item p h) (row t r) l := by
  unfold acc
  refine (Pair.pay5_at _ _ _ _ _ _ r h l (fun j => m ((c : Thread nD τ).loc main_arg2) (wat (item p h) (wcat j) l)) fun h' j => ?_).trans ?_
  · exact (readD m c t p _ _).trans (Host.wbd_at _ p h' h j l)
  · unfold logitOf
    have e1 : (fun k => rdX (F := Ideal) (iblk m c 0 t) (xix r k)) = fun k => m ((c : Thread nD τ).loc main_arg0) (xat (row t r) k) :=
      funext fun k => readX m c t r k
    have e2 : (fun k => rdW (F := Ideal) (iblk m c 2 t) p (wix k (lane h l))) = fun k => m ((c : Thread nD τ).loc main_arg2) (wat (item p h) (wfeat k) l) :=
      funext fun k => (readW m c t p k _).trans (Host.wtop_at _ k p h l)
    have e3 : (if h = 0 then rdH (F := Ideal) (iblk m c 1 t) (itA p) (rc r) else rdH (F := Ideal) (iblk m c 1 t) (itB p) (rc r))
        = m ((c : Thread nD τ).loc main_arg1) (hat (row t r) (item p h)) := by
      have ch : ∀ h : Fin 2, h = 0 ∨ h = 1 := by decide
      rcases ch h with rfl | rfl
      · exact (if_pos rfl).trans (readH m c t r _)
      · exact (if_neg (by decide)).trans (readH m c t r _)
    have e4 : rdS (F := Ideal) (iblk m c 4 t) p (six (lane h l)) = m ((c : Thread nD τ).loc main_arg3) (bat (item p h) l) :=
      (readS m c t p _).trans (Host.bias_at _ p h l)
    rw [e1, e2, e3, e4]

end Cert.KRun
-- ==== Proof.Arrays.lean ====
/-
  The kernel's two result arrays, when every logit is real: the choices are each row's first largest category, and the
  entropy is the sum over all rows.
-/
module

public import proofs.«01_k».proof.Proof.BlockAt

@[expose] public section

noncomputable section

namespace Cert.KRun

open Cert.KernelIdeal Cert.KernelIdeal.Gen Idealize.ShloMosaic Idealize.ShloMosaic.TcCoe Idealize.SL.Sem
open Idealize.ShloMosaic.Pipeline (Dat)
open Cert.Pair (lane rl rc acc colA colB pairSum choice total)
open Cert.RefRun (hat logitOf)
open Cert.Host (item)
open Cert.Math (IsFirst gain)

/-- Thirteen terms added in turn. -/
theorem chain (g : Fin 13 → ℝ) :
    0 + g 0 + g 1 + g 2 + g 3 + g 4 + g 5 + g 6 + g 7 + g 8 + g 9 + g 10 + g 11 + g 12 = ∑ k, g k := by
  simp only [Fin.sum_univ_succ, Fin.sum_univ_zero]
  simp only [Fin.succ_zero_eq_one, Fin.succ_one_eq_two]
  show _ = g 0 + (g 1 + (g 2 + (g 3 + (g 4 + (g 5 + (g 6 + (g 7 + (g 8 + (g 9 + (g 10 + (g 11 + (g 12 + 0))))))))))))
  ring

/-- The items are the pairs' two. -/
theorem sum_items (f : Fin 26 → ℝ) : ∑ n, f n = ∑ p : Fin 13, (f (item p 0) + f (item p 1)) := by
  rw [← Equiv.sum_comp (finProdFinEquiv (m := 13) (n := 2)) f, Fintype.sum_prod_type]
  refine Finset.sum_congr rfl fun p _ => ?_
  rw [Fin.sum_univ_two]
  refine congrArg₂ (· + ·) (congrArg f (Fin.ext ?_)) (congrArg f (Fin.ext ?_))
  · show 0 + 2 * p.val = 2 * p.val + 0; omega
  · show 1 + 2 * p.val = 2 * p.val + 1; omega

/-- The examples are the points' rows. -/
theorem sum_rows (f : Fin 4096 → ℝ) : ∑ b, f b = ∑ t : Fin 8, ∑ r, f (row t r) := by
  rw [← Equiv.sum_comp (finProdFinEquiv (m := 8) (n := 512)) f, Fintype.sum_prod_type]
  refine Finset.sum_congr rfl fun t _ => Finset.sum_congr rfl fun r _ => congrArg f (Fin.ext ?_)
  show r.val + 512 * t.val = 512 * t.val + r.val; omega

theorem row_surj (b : Fin 4096) : ∃ t r, b = row t r :=
  ⟨⟨b.val / 512, by omega⟩, ⟨b.val % 512, by omega⟩, Fin.ext (by show b.val = 512 * (b.val / 512) + b.val % 512; omega)⟩

theorem item_surj (n : Fin 26) : ∃ p h, n = item p h :=
  ⟨⟨n.val / 2, by omega⟩, ⟨n.val % 2, by omega⟩, Fin.ext (by show n.val = 2 * (n.val / 2) + n.val % 2; omega)⟩

/-- Row `r` and item `n` of a block of choices. -/
def yix (r : Fin 512) (n : Fin 26) : S512x26.Idx := fun a => match a with | ⟨0, _⟩ => r | ⟨1, _⟩ => n

section
variable (m : (ℓ : Loc nD τ sig) → Buf (Elt Ideal) ℓ) (c : Dev nD)

/-- A point leaves the pairs' choices, whatever the point. -/
theorem outs_choice (t : Fin cfg0.N) :
    (outsAt0 m c t.val t.isLt).1 = choice (F := Ideal) (iblk m c 0 t) (iblk m c 1 t) (iblk m c 2 t) (iblk m c 3 t) (iblk m c 4 t) := by
  by_cases h0 : t.val % 8 = 0
  · rw [outsAt0_A m c t h0]; dsimp only; exact Pair.choices_A (F := Ideal) ..
  · rw [outsAt0_B m c t h0]; dsimp only; exact Pair.choices_B (F := Ideal) ..

/-- The first point leaves the entropy block at zero less its sum, the others at the last less theirs. -/
theorem outs_first (t : Fin cfg0.N) (h0 : t.val % 8 = 0) :
    (outsAt0 m c t.val t.isLt).2
      = k0_pay3 (F := Ideal) (total (iblk m c 0 t) (iblk m c 1 t) (iblk m c 2 t) (iblk m c 3 t) (iblk m c 4 t)) (k0_pay2 (F := Ideal)) := by
  rw [outsAt0_A m c t h0]; dsimp only; exact Pair.ent_A (F := Ideal) ..

theorem outs_next (t : Fin cfg0.N) (h0 : ¬t.val % 8 = 0) :
    (outsAt0 m c t.val t.isLt).2
      = k0_pay3 (F := Ideal) (total (iblk m c 0 t) (iblk m c 1 t) (iblk m c 2 t) (iblk m c 3 t) (iblk m c 4 t))
          (outsAt0 m c (t.val - 1) (Nat.lt_of_le_of_lt (Nat.sub_le _ _) t.isLt)).2 := by
  rw [outsAt0_B m c t h0]; dsimp only; exact Pair.ent_B (F := Ideal) ..

variable (zz : Fin 26 → Fin 4096 → Fin 64 → ℝ) (ii : Fin 26 → Fin 4096 → Fin 64)
  (hi : ∀ n b, IsFirst (zz n b) (ii n b))
  (hz : ∀ n b l, logitOf (m ((c : Thread nD τ).loc main_arg0)) (m ((c : Thread nD τ).loc main_arg1)) (m ((c : Thread nD τ).loc main_arg2))
    (m ((c : Thread nD τ).loc main_arg3)) n b l = (zz n b l : EReal))
include hi hz

theorem acc_real (t : Fin cfg0.N) (p : Fin 13) (h : Fin 2) (r : Fin 512) (l : Fin 64) :
    acc (F := Ideal) (iblk m c 0 t) (iblk m c 1 t) (iblk m c 2 t) (iblk m c 3 t) (iblk m c 4 t) p (rl r (lane h l))
      = (zz (item p h) (row t r) l : EReal) := (acc_at m c t p h r l).trans (hz _ _ _)

theorem choice_at (t : Fin cfg0.N) (r : Fin 512) (p : Fin 13) (h : Fin 2) :
    choice (F := Ideal) (iblk m c 0 t) (iblk m c 1 t) (iblk m c 2 t) (iblk m c 3 t) (iblk m c 4 t) (yix r (item p h))
      = BitVec.ofNat 32 (ii (item p h) (row t r)).val := by
  have ch : ∀ h : Fin 2, h = 0 ∨ h = 1 := by decide
  rcases ch h with rfl | rfl
  · refine (Pair.choice_A _ _ _ _ _ _ p (rc r) rfl rfl).trans ?_
    exact Pair.colA_at _ r _ _ (hi _ _) fun l => acc_real m c zz ii hi hz t p 0 r l
  · refine (Pair.choice_B _ _ _ _ _ _ p (rc r) rfl rfl).trans ?_
    exact Pair.colB_at _ r _ _ (hi _ _) fun l => acc_real m c zz ii hi hz t p 1 r l

/-- The choices, entry by entry. -/
theorem choices_at (b : Fin 4096) (n : Fin 26) :
    ((dats m 0 c).arrAt 5 cfg0.N : S4096x26.Idx → BitVec 32) (hat b n) = BitVec.ofNat 32 (ii n b).val := by
  obtain ⟨t, r, rfl⟩ := row_surj b
  obtain ⟨p, h, rfl⟩ := item_surj n
  have hf : ∀ t : Fin cfg0.N, (cfg0.win 5).flush t = true := (by decide +kernel : ∀ t : Fin grid0.N, _)
  have e := congrFun (blocks5 m c t (hf t)) (yix r (item p h))
  have e' : (dats m 0 c).flushed 5 t (yix r (item p h)) = (outsAt0 m c t.val t.isLt).1 (yix r (item p h)) := congrFun (flushed5 m c t) (yix r (item p h))
  refine Eq.trans (congrArg ((dats m 0 c).arrAt 5 cfg0.N) (funext fun a => Fin.ext ?_))
    (e.trans (e'.trans ((congrFun (outs_choice m c t) (yix r (item p h))).trans (choice_at m c zz ii hi hz t r p h))))
  have e := idx5 t
  match a with
  | ⟨0, _⟩ => blk_simp [e]; show 512 * t.val + r.val = t.val * 512 + r.val; omega
  | ⟨1, _⟩ => blk_simp [e]; rfl

/-- The sum of a point's pairs. -/
def part (t : Fin 8) : ℝ :=
  ∑ p : Fin 13, ∑ r : Fin 512, (gain (zz (item p 0) (row t r)) (ii (item p 0) (row t r)) + gain (zz (item p 1) (row t r)) (ii (item p 1) (row t r)))

theorem total_at (t : Fin cfg0.N) :
    total (F := Ideal) (iblk m c 0 t) (iblk m c 1 t) (iblk m c 2 t) (iblk m c 3 t) (iblk m c 4 t) = (part zz ii t : EReal) := by
  have hp : ∀ p, pairSum (acc (F := Ideal) (iblk m c 0 t) (iblk m c 1 t) (iblk m c 2 t) (iblk m c 3 t) (iblk m c 4 t) p)
      = ((∑ r : Fin 512, (gain (zz (item p 0) (row t r)) (ii (item p 0) (row t r)) + gain (zz (item p 1) (row t r)) (ii (item p 1) (row t r))) : ℝ) : EReal) :=
    fun p => Pair.pairSum_at _ (fun h r => zz (item p h) (row t r)) (fun h r => ii (item p h) (row t r)) (fun h r => hi _ _)
      (fun h r l => acc_real m c zz ii hi hz t p h r l)
  unfold total part
  rw [← chain]
  simp only [EReal.coe_add, EReal.coe_zero]
  simp only [hp, Pair.bits_zero]
  rfl

/-- One point's step of the entropy. -/
theorem step_at (v w : ℝ) (old : S1x1.Idx → EReal) (ho : ∀ j, old j = (w : EReal)) (j : S1x1.Idx) :
    (k0_pay3 (F := Ideal) ((v : EReal) : Ideal .f32) old) j = ((w + - v : ℝ) : EReal) := by
  show shapeCast S1x1 old shapeCasts_S1x1_S1x1 j + (Ideal.ofBits .f32 0x00000000#32 - (v : EReal)) = _
  rw [shapeCast_self, ho, Ideal.ofBits_zero_f32, EReal.coe_add, EReal.coe_neg, zero_sub]

/-- What a point leaves of the entropy: the parts so far, negated. -/
theorem outs_ent : ∀ (n : Nat) (hn : n < 8) (j : S1x1.Idx),
    ((outsAt0 m c n hn).2 : S1x1.Idx → EReal) j = ((∑ s : Fin (n + 1), - part zz ii ⟨s.val, by omega⟩ : ℝ) : EReal)
  | 0, hn, j => by
    refine (congrFun (outs_first m c ⟨0, hn⟩ rfl) j).trans ?_
    rw [total_at m c zz ii hi hz]
    refine (step_at m c zz ii hi hz _ 0 _ (fun j => ?_) j).trans ?_
    · exact Ideal.ofBits_zero_f32
    · rw [Fin.sum_univ_one, zero_add]; rfl
  | n + 1, hn, j => by
    have h0 : ¬ (n + 1) % 8 = 0 := by omega
    refine (congrFun (outs_next m c ⟨n + 1, hn⟩ h0) j).trans ?_
    rw [total_at m c zz ii hi hz]
    refine (step_at m c zz ii hi hz _ _ _ (outs_ent n (by omega)) j).trans ?_
    rw [Fin.sum_univ_castSucc (n := n + 1)]
    rfl

/-- The entropy as the host returns it. -/
theorem entropy_at (j : S_.Idx) :
    scalarOf (F := Ideal) ((dats m 0 c).arrAt 6 cfg0.N) j = ((∑ n, ∑ b, - gain (zz n b) (ii n b) : ℝ) : EReal) := by
  have hw : win0_6.WholeAt (⟨7, by decide⟩ : Fin grid0.N) := by decide +kernel
  have key : ∀ j : S1x1.Idx, ((dats m 0 c).arrAt 6 cfg0.N : S1x1.Idx → EReal) j = ((∑ n, ∑ b, - gain (zz n b) (ii n b) : ℝ) : EReal) := fun j => by
    refine ((dats m 0 c).arrAt_emb_eq_after_last 6 (⟨7, by decide⟩ : Fin grid0.N) hw j).trans ?_
    refine (congrFun (after0_6 m c (⟨7, by decide⟩ : Fin grid0.N)) j).trans ((outs_ent m c zz ii hi hz 7 (by decide) j).trans (congrArg Real.toEReal ?_))
    rw [sum_items]
    simp only [sum_rows, ← Finset.sum_add_distrib]
    rw [Finset.sum_comm]
    refine Finset.sum_congr rfl fun t _ => ?_
    unfold part
    rw [← Finset.sum_neg_distrib]
    refine Finset.sum_congr rfl fun p _ => ?_
    rw [← Finset.sum_neg_distrib]
    refine Finset.sum_congr rfl fun r _ => ?_
    show -(gain (zz (item p 0) (row t r)) _ + gain (zz (item p 1) (row t r)) _) = _
    ring
  exact key _

end

end Cert.KRun
-- ==== Proof.RefAt.lean ====
/-
  The reference's results over the extended reals, from real logits: the softmax is clipped, a row's index of the
  largest clipped probability is the first index of its largest logit, and the entropy is a sum of reals.
-/
module

public import proofs.«01_k».proof.Proof.LogitAt
public import Idealize.ShloMosaic.Lib.IdealHost
public import Idealize.ShloMosaic.Lib.Pointwise.Reduce

@[expose] public section

noncomputable section

namespace Cert.RefRun

open Cert.ReferenceIdeal Cert.ReferenceIdeal.Gen Idealize.ShloMosaic Idealize.ShloMosaic.TcCoe Idealize.SL.Sem Idealize.ShloMosaic.StableHlo
open Cert.Math
open Cert.Pair (coe_sum' coe_max' coe_min')

/-- The row of item `n` and example `b`. -/
def rix (n : Fin 26) (b : Fin 4096) : S26x4096.Idx := fun a => match a with | ⟨0, _⟩ => n | ⟨1, _⟩ => b
def rix1 (n : Fin 26) (b : Fin 4096) : S26x4096x1.Idx := fun a => match a with | ⟨0, _⟩ => n | ⟨1, _⟩ => b | ⟨2, _⟩ => (0 : Fin 1)

theorem tix_eta (i : S26x4096x64.Idx) : tix (i 0) (i 1) (i 2) = i := funext fun a => match a with | ⟨0, _⟩ => rfl | ⟨1, _⟩ => rfl | ⟨2, _⟩ => rfl

theorem drop_tix (n : Fin 26) (b : Fin 4096) (l : Fin 64) : reducesTo_S26x4096x64_S26x4096_d2.drop (tix n b l) = rix n b :=
  funext fun a => match a with | ⟨0, _⟩ => rfl | ⟨1, _⟩ => rfl

theorem of_drop (i : S26x4096x64.Idx) (n : Fin 26) (b : Fin 4096) (e : reducesTo_S26x4096x64_S26x4096_d2.drop i = rix n b) : ∃ l : Fin 64, i = tix n b l := by
  have e' : rix (i 0) (i 1) = rix n b := (drop_tix _ _ _).symm.trans ((congrArg _ (tix_eta i)).trans e)
  have e0 : i 0 = n := congrFun e' 0
  have e1 : i 1 = b := congrFun e' 1
  refine ⟨i 2, ?_⟩
  rw [← e0, ← e1]
  exact (tix_eta i).symm

/-! ## Constants -/

theorem bits_bot : (FloatOps.ofBits .f32 0xFF800000#32 : Ideal .f32) = (⊥ : EReal) := Cert.Pair.bits_bot

theorem bits_one : (FloatOps.ofBits .f32 0x3F800000#32 : Ideal .f32) = ((1 : ℝ) : EReal) := by
  show Ideal.ofBits .f32 0x3F800000#32 = _
  simp [Ideal.ofBits, Ideal.ieee]
  rw [← EReal.coe_mul, ← EReal.coe_one, EReal.coe_eq_coe_iff]
  norm_num

theorem bits_million : (FloatOps.ofBits .f32 0x49742400#32 : Ideal .f32) = ((1000000 : ℝ) : EReal) := by
  show Ideal.ofBits .f32 0x49742400#32 = _
  simp [Ideal.ofBits, Ideal.ieee]
  norm_num
  rw [← EReal.coe_mul, EReal.coe_eq_coe_iff]
  norm_num

theorem eps_at (i : S_.Idx) : eps (F := Ideal) i = ((1 / 1000000 : ℝ) : EReal) := by
  show Ideal.div (FloatOps.ofBits .f32 0x3F800000#32 : Ideal .f32) (FloatOps.ofBits .f32 0x49742400#32 : Ideal .f32) = _
  rw [bits_one, bits_million, Ideal.div_coe (by norm_num), ← EReal.coe_mul]
  norm_num

theorem oneMinusEps_at (i : S_.Idx) : oneMinusEps (F := Ideal) i = ((999999 / 1000000 : ℝ) : EReal) := by
  show (FloatOps.ofBits .f32 0x3F800000#32 : Ideal .f32) - eps (F := Ideal) i = (_ : EReal)
  rw [bits_one, eps_at, ← EReal.coe_sub]
  norm_num

/-! ## The softmax -/

theorem spread_at (x : S26x4096.Idx → EReal) (n : Fin 26) (b : Fin 4096) (l : Fin 64) :
    broadcastInDim S26x4096x64 ![0, 1, 2] bcast_S26x4096x1_S26x4096x64_0_1_2 (broadcastInDim S26x4096x1 ![0, 1] bcast_S26x4096_S26x4096x1_0_1 x) (tix n b l) = x (rix n b) := by
  refine (broadcastInDim_apply _ bcast_S26x4096x1_S26x4096x64_0_1_2 _ _ (rix1 n b) (fun a => match a with
    | ⟨0, _⟩ => by show n.val = if (26 : Nat) = 1 then 0 else n.val; rw [if_neg (by decide)]
    | ⟨1, _⟩ => by show b.val = if (4096 : Nat) = 1 then 0 else b.val; rw [if_neg (by decide)]
    | ⟨2, _⟩ => by show 0 = if (1 : Nat) = 1 then 0 else l.val; rw [if_pos rfl])).trans ?_
  exact broadcastInDim_apply _ bcast_S26x4096_S26x4096x1_0_1 _ _ (rix n b) (fun a => match a with
    | ⟨0, _⟩ => by show n.val = if (26 : Nat) = 1 then 0 else n.val; rw [if_neg (by decide)]
    | ⟨1, _⟩ => by show b.val = if (4096 : Nat) = 1 then 0 else b.val; rw [if_neg (by decide)])

variable (L : FVec Ideal S26x4096x64 .f32) (n : Fin 26) (b : Fin 4096) (z : Fin 64 → ℝ) (i : Fin 64)

theorem reduceMax_at (hi : ∀ l, z l ≤ z i) (hz : ∀ l, L (tix n b l) = (z l : EReal)) :
    Host.reduce (max : EReal → EReal → EReal) (L : S26x4096x64.Idx → EReal) (fun _ : S_.Idx => (⊥ : EReal)) reducesTo_S26x4096x64_S26x4096_d2 h_S_ (rix n b) = (z i : EReal) := by
  rw [Host.reduce_eq_fold]
  apply le_antisymm
  · refine (Finset.fold_max_le _).2 ⟨bot_le, fun k hk => ?_⟩
    obtain ⟨l, rfl⟩ := of_drop k n b (Finset.mem_filter.1 hk).2
    rw [hz]
    exact_mod_cast hi _
  · exact (Finset.le_fold_max _).2 (.inr ⟨tix n b i, Finset.mem_filter.2 ⟨Finset.mem_univ _, drop_tix n b i⟩, (hz i).ge⟩)

theorem rowMax_at (hi : ∀ l, z l ≤ z i) (hz : ∀ l, L (tix n b l) = (z l : EReal)) (l : Fin 64) :
    rowMax (F := Ideal) L (tix n b l) = (z i : EReal) := by
  unfold rowMax
  refine (spread_at _ n b l).trans ?_
  rw [ValueIdx.maximumf_apply]
  have hb : (constant S_ .f32 0xFF800000#32 : FVec Ideal S_ .f32) = fun _ => (⊥ : EReal) := funext fun _ => bits_bot
  have hc : broadcastInDim S26x4096 ![] bcast_S_S26x4096 (constant S_ .f32 0xFF800000#32 : FVec Ideal S_ .f32) (rix n b) = (⊥ : EReal) :=
    (ValueIdx.broadcastInDim_scalar_apply _ _ _).trans bits_bot
  have hf : (FloatOps.maximumf : Ideal .f32 → Ideal .f32 → Ideal .f32) = (max : EReal → EReal → EReal) := rfl
  rw [hc, hf, hb]
  refine (congrArg _ (reduceMax_at L n b z i hi hz)).trans ?_
  exact max_eq_right bot_le

theorem expo_at (hi : ∀ l, z l ≤ z i) (hz : ∀ l, L (tix n b l) = (z l : EReal)) (l : Fin 64) :
    expo (F := Ideal) L (tix n b l) = ((Real.exp (z l - z i) : ℝ) : EReal) := by
  show Ideal.exp ((L (tix n b l) : EReal) - rowMax (F := Ideal) L (tix n b l)) = _
  rw [rowMax_at L n b z i hi hz, hz, ← EReal.coe_sub, Ideal.exp_coe]

theorem rowSum_at (E : FVec Ideal S26x4096x64 .f32) (w : Fin 64 → ℝ) (hw : ∀ l, E (tix n b l) = (w l : EReal)) (l : Fin 64) :
    rowSum (F := Ideal) E (tix n b l) = ((∑ l, w l : ℝ) : EReal) := by
  unfold rowSum
  refine (spread_at _ n b l).trans ?_
  rw [ValueIdx.hostReduceAdd_apply, Ideal.hostReduceAdd_r3_a2]
  have hc : (constant S_ .f32 0x00000000#32 : FVec Ideal S_ .f32) (Shape.Idx.first h_S_) = (0 : EReal) := Ideal.ofBits_zero_f32
  rw [hc, zero_add, coe_sum']
  refine Finset.sum_congr rfl fun k _ => ?_
  rw [← hw]
  exact congrArg E (funext fun a => match a with | ⟨0, _⟩ => rfl | ⟨1, _⟩ => rfl | ⟨2, _⟩ => rfl)

theorem probs_at (hi : ∀ l, z l ≤ z i) (hz : ∀ l, L (tix n b l) = (z l : EReal)) (l : Fin 64) :
    probs (F := Ideal) L (tix n b l) = (clipped z i l : EReal) := by
  unfold probs
  rw [ValueIdx.minimumf_apply, ValueIdx.maximumf_apply]
  have e1 : broadcastInDim S26x4096x64 ![] bcast_S_S26x4096x64 (oneMinusEps (F := Ideal)) (tix n b l) = ((999999 / 1000000 : ℝ) : EReal) :=
    (ValueIdx.broadcastInDim_scalar_apply _ _ _).trans (oneMinusEps_at _)
  have e2 : broadcastInDim S26x4096x64 ![] bcast_S_S26x4096x64 (eps (F := Ideal)) (tix n b l) = ((1 / 1000000 : ℝ) : EReal) :=
    (ValueIdx.broadcastInDim_scalar_apply _ _ _).trans (eps_at _)
  have e3 : Host.divf (F := Ideal) (φ := .f32) (expo (F := Ideal) L) (rowSum (F := Ideal) (expo (F := Ideal) L)) (tix n b l) = ((Real.exp (z l - z i) / Math.mass z i : ℝ) : EReal) := by
    show Ideal.div (expo (F := Ideal) L (tix n b l)) (rowSum (F := Ideal) (expo (F := Ideal) L) (tix n b l)) = _
    rw [rowSum_at n b (expo (F := Ideal) L) _ (expo_at L n b z i hi hz), expo_at L n b z i hi hz]
    refine (Ideal.div_coe (mass_pos z i).ne' _).trans ?_
    rw [← EReal.coe_mul, mul_one_div]
  refine (congrArg₂ (FloatOps.minimumf (F := Ideal) (φ := .f32)) e1 (congrArg₂ (FloatOps.maximumf (F := Ideal) (φ := .f32)) e2 e3)).trans ?_
  show min ((999999 / 1000000 : ℝ) : EReal) (max ((1 / 1000000 : ℝ) : EReal) ((Real.exp (z l - z i) / Math.mass z i : ℝ) : EReal)) = _
  rw [coe_max', coe_min']
  rfl

end Cert.RefRun
-- ==== Proof.RefArg.lean ====
/-
  The index of the largest clipped probability, and the entropy, over the extended reals.
-/
module

public import proofs.«01_k».proof.Proof.RefAt
public import Idealize.ShloMosaic.Lib.IdealHost
public import Idealize.ShloMosaic.Lib.Pointwise.Reduce

@[expose] public section

noncomputable section

namespace Cert.RefRun

open Cert.ReferenceIdeal Cert.ReferenceIdeal.Gen Idealize.ShloMosaic Idealize.ShloMosaic.TcCoe Idealize.SL.Sem Idealize.ShloMosaic.StableHlo
open Cert.Math
open Cert.Pair (coe_sum' coe_max' coe_min')

variable (n : Fin 26) (b : Fin 4096) (z : Fin 64 → ℝ) (i : Fin 64)

/-! ## The index of the largest entry -/

/-- A fold that always keeps one of its two arguments ends at the one that beats the others, if it meets it. -/
theorem foldl_best {β : Type} (f : β → β → β) (v : β) (B : β → Prop) (h1 : ∀ p q, f p q = p ∨ f p q = q)
    (h2 : ∀ p, B p → f v p = v) (h3 : ∀ p, B p → f p v = v) :
    ∀ (l : List β) (s : β), (s = v ∨ B s) → (∀ p ∈ l, p = v ∨ B p) → (s = v ∨ v ∈ l) → l.foldl f s = v
  | [], s, _, _, hv => hv.resolve_right (List.not_mem_nil)
  | p :: l, s, hs, hl, hv => by
    rw [List.foldl_cons]
    have hp := hl p List.mem_cons_self
    have hvv : f v v = v := (h1 v v).elim id id
    refine foldl_best f v B h1 h2 h3 l _ ?_ (fun q hq => hl q (List.mem_cons_of_mem _ hq)) ?_
    · rcases h1 s p with e | e <;> rw [e]
      · exact hs
      · exact hp
    · rcases hv with rfl | hv
      · refine .inl ?_
        rcases hp with rfl | hp
        · exact hvv
        · exact h2 p hp
      · rcases List.mem_cons.1 hv with rfl | hv
        · refine .inl ?_
          rcases hs with rfl | hs
          · exact hvv
          · exact h3 s hs
        · exact .inr hv

theorem reducer_eq (p q : Ideal .f32 × BitVec 32) :
    reducer_argmax_f32_i32 (F := Ideal) p q = if (q.1 : EReal) < p.1 ∨ ((p.1 : EReal) = q.1 ∧ p.2.slt q.2) then p else q := by
  obtain ⟨p1, p2⟩ := p
  obtain ⟨q1, q2⟩ := q
  unfold reducer_argmax_f32_i32
  simp only [Ideal.cmpf_def, Ideal.cmp, IntOp.ori, IntOp.andi, IntOp.cmpi, Scalar.select]
  by_cases h1 : (q1 : EReal) < p1
  · have h2 : ¬ (p1 : EReal) = q1 := fun e => absurd (e ▸ h1) (lt_irrefl _)
    simp [h1, h2]
  · by_cases h2 : (p1 : EReal) = q1
    · by_cases h3 : p2.slt q2 = true
      · simp [h1, h2, h3]
      · simp [h1, h2, h3]
    · simp [h1, h2]

/-- The pairs a two-operand reduction meets at `j`: those of the indices that drop to `j`. -/
theorem mem_fiber {s t : Shape} {α β : Type} {axes : List (Fin s.rank)} (x : s.Idx → α) (y : s.Idx → β) (h : s.ReducesTo axes t) (j : t.Idx) (p : α × β) :
    p ∈ Host.argReduceFiber x y h j ↔ ∃ i : s.Idx, h.drop i = j ∧ (x i, y i) = p := by
  unfold Host.argReduceFiber
  rw [List.mem_map]
  constructor
  · rintro ⟨k, hk, e⟩
    exact ⟨_, of_decide_eq_true (List.mem_filter.1 hk).2, e⟩
  · rintro ⟨i, hi, e⟩
    refine ⟨s.rowMajor i, List.mem_filter.2 ⟨List.mem_finRange _, ?_⟩, ?_⟩
    · rw [Equiv.symm_apply_apply]; exact decide_eq_true hi
    · rw [Equiv.symm_apply_apply]; exact e

theorem argRows_at (P : FVec Ideal S26x4096x64 .f32) (hi : IsFirst z i) (hz : ∀ l, P (tix n b l) = (z l : EReal)) :
    argRows (F := Ideal) P (rix n b) = BitVec.ofNat 32 i.val := by
  unfold argRows
  refine second_of _ _ ((z i : EReal), BitVec.ofNat 32 i.val) ?_
  rw [Ideal.argReduce_eq_reduce2, Host.reduce2_eq_foldl_fiber]
  have small : ∀ k : Fin 64, (BitVec.ofNat 32 k.val).toInt = (k.val : Int) := by decide
  have slt : ∀ k l : Fin 64, (BitVec.ofNat 32 k.val).slt (BitVec.ofNat 32 l.val) = decide (k < l) := fun k l => by
    rw [BitVec.slt_eq_decide, small, small]
    exact decide_eq_decide.2 Int.ofNat_lt
  refine (foldl_best _ ((z i : EReal), BitVec.ofNat 32 i.val)
    (fun p => (p.1 : EReal) < z i ∨ ((p.1 : EReal) = z i ∧ (BitVec.ofNat 32 i.val).slt p.2)) (fun p q => ?_) (fun p hp => ?_) (fun p hp => ?_) _ _ ?_ (fun p hp => ?_) ?_)
  · rw [reducer_eq]; split
    · exact .inl rfl
    · exact .inr rfl
  · rw [reducer_eq, if_pos]
    rcases hp with hp | hp
    · exact .inl hp
    · exact .inr ⟨hp.1.symm, hp.2⟩
  · rw [reducer_eq, if_neg]
    rintro (q | ⟨q1, q2⟩)
    · rcases hp with hp | hp
      · exact absurd (q.trans hp) (lt_irrefl _)
      · exact absurd (hp.1 ▸ q) (lt_irrefl _)
    · rcases hp with hp | hp
      · exact absurd (q1 ▸ hp) (lt_irrefl _)
      · have h2 := hp.2
        simp only [BitVec.slt_eq_decide, decide_eq_true_eq] at q2 h2
        omega
  · refine .inr (.inl ?_)
    show (FloatOps.ofBits .f32 0xFF800000#32 : Ideal .f32) < (z i : EReal)
    rw [bits_bot]; exact EReal.bot_lt_coe _
  · obtain ⟨k, hk, rfl⟩ := (mem_fiber _ _ _ _ p).1 hp
    obtain ⟨y, rfl⟩ := of_drop k n b hk
    have hw : iotaInDim S26x4096x64 32 2 (tix n b y) = BitVec.ofNat 32 y.val := rfl
    rw [hz, hw]
    rcases lt_trichotomy y i with h | h | h
    · exact .inr (.inl (EReal.coe_lt_coe_iff.2 (hi.2 _ h)))
    · rw [h]; exact .inl rfl
    · refine .inr ?_
      rcases (hi.1 y).lt_or_eq with q | q
      · exact .inl (EReal.coe_lt_coe_iff.2 q)
      · exact .inr ⟨congrArg Real.toEReal q, by rw [slt]; exact decide_eq_true h⟩
  · exact .inr ((mem_fiber _ _ _ _ _).2 ⟨tix n b i, drop_tix n b i, Prod.ext (hz i) rfl⟩)

theorem argTable_at (P : FVec Ideal S26x4096x64 .f32) (hi : IsFirst z i) (hz : ∀ l, P (tix n b l) = (z l : EReal)) :
    argTable (F := Ideal) P (hat b n) = BitVec.ofNat 32 i.val := by
  unfold argTable
  rw [transpose_apply [1, 0] (argRows (F := Ideal) P) transposes_S26x4096_S4096x26_1_0 (hat b n) (rix n b) (fun a => match a with
    | ⟨0, _⟩ => rfl
    | ⟨1, _⟩ => rfl)]
  exact argRows_at n b z i P hi hz

/-! ## The entropy -/

def tableEquiv : Fin 26 × Fin 4096 × Fin 64 ≃ S26x4096x64.Idx where
  toFun p := tix p.1 p.2.1 p.2.2
  invFun i := (i 0, i 1, i 2)
  left_inv _ := rfl
  right_inv i := tix_eta i

theorem entropy_at (P : FVec Ideal S26x4096x64 .f32) (zz : Fin 26 → Fin 4096 → Fin 64 → ℝ) (ii : Fin 26 → Fin 4096 → Fin 64)
    (hz : ∀ n b l, P (tix n b l) = (clipped (zz n b) (ii n b) l : EReal)) (j : S_.Idx) :
    entropy (F := Ideal) P j = ((∑ n, ∑ b, - gain (zz n b) (ii n b) : ℝ) : EReal) := by
  unfold entropy
  rw [ValueIdx.hostReduceAdd_apply, Ideal.hostReduceAdd_total _ (fun a => a.elim0)]
  have hc : (constant S_ .f32 0x00000000#32 : FVec Ideal S_ .f32) (Shape.Idx.first h_S_) = (0 : EReal) := Ideal.ofBits_zero_f32
  rw [hc, zero_add, ← Equiv.sum_comp tableEquiv, Fintype.sum_prod_type, coe_sum']
  refine Finset.sum_congr rfl fun n _ => ?_
  rw [Fintype.sum_prod_type, coe_sum']
  refine Finset.sum_congr rfl fun b _ => ?_
  rw [gain, ← Finset.sum_neg_distrib, coe_sum']
  refine Finset.sum_congr rfl fun l _ => ?_
  show (-(P (tix n b l)) : EReal) * Ideal.log (P (tix n b l)) = _
  rw [hz, Ideal.log_coe, if_neg (not_le.2 (clipped_pos _ _ _)), ← EReal.coe_neg, ← EReal.coe_mul, neg_mul]

end Cert.RefRun
-- ==== Proof.Finite.lean ====
/-
  What the precondition says over the extended reals: features, weights and biases are real, so every logit is.
-/
module

public import proofs.«01_k».proof.Proof.LogitAt
public import proofs.«01_k».proof.Proof.Gen.Pre_finite

@[expose] public section

noncomputable section

namespace Cert.RefRun

open Idealize.ShloMosaic
open Cert.Pair (hot logit)

/-- A value whose absolute value is below infinity is real. -/
theorem real_of (x : EReal) (h : (FloatOps.cmpf .olt (FloatOps.hostAbsf x : Ideal .f32) (FloatOps.ofBits .f32 0x7F800000#32 : Ideal .f32)) = 1#1) :
    ∃ r : ℝ, x = (r : EReal) := by
  have e : (FloatOps.ofBits .f32 0x7F800000#32 : Ideal .f32) = (⊤ : EReal) := by
    show Ideal.ofBits .f32 0x7F800000#32 = ⊤
    simp [Ideal.ofBits, Ideal.ieee]
  rw [e] at h
  induction x with
  | bot => exfalso; revert h; simp [Ideal.cmpf_def, FloatOps.hostAbsf, Ideal.cmp]
  | coe r => exact ⟨r, rfl⟩
  | top => exfalso; revert h; simp [Ideal.cmpf_def, FloatOps.hostAbsf, Ideal.cmp]

theorem hot_real (w : BitVec 32) (j : Fin 64) : ∃ r : ℝ, hot w j = (r : EReal) := by
  exact ⟨_, rfl⟩

/-- Real ingredients, real logits. -/
theorem logit_real (x t : Fin 1024 → EReal) (w : BitVec 32) (e : Fin 64 → EReal) (b : EReal)
    (hx : ∀ k, ∃ r : ℝ, x k = (r : EReal)) (ht : ∀ k, ∃ r : ℝ, t k = (r : EReal)) (he : ∀ k, ∃ r : ℝ, e k = (r : EReal))
    (hb : ∃ r : ℝ, b = (r : EReal)) : ∃ r : ℝ, logit x t w e b = (r : EReal) := by
  choose x' hx using hx
  choose t' ht using ht
  choose e' he using he
  obtain ⟨b', rfl⟩ := hb
  choose w' hw using hot_real w
  refine ⟨∑ k, x' k * t' k + ∑ j, w' j * e' j + b', ?_⟩
  unfold logit
  simp only [hx, ht, he, hw, ← EReal.coe_mul]
  rw [EReal.coe_add, EReal.coe_add, Pair.coe_sum', Pair.coe_sum']

end Cert.RefRun
-- ==== Proof.Meet.lean ====
/-
  The kernel's results are the reference's: one table of real logits gives both programs' choices and entropy.
-/
module

public import proofs.«01_k».proof.Defs
public import proofs.«01_k».proof.Proof.Arrays
public import proofs.«01_k».proof.Proof.RefArg
public import proofs.«01_k».proof.Proof.Finite

@[expose] public section

noncomputable section

namespace Cert.Meet

open Idealize.ShloMosaic Idealize.ShloMosaic.TcCoe Idealize.SL.Sem
open Cert.KernelIdeal Cert.KernelIdeal.Gen
open Cert.Math (IsFirst clipped)
open Cert.RefRun (logitOf tix hat xat wat bat argTable entropy probs logits)

variable (m : (ℓ : Loc nD τ sig) → Buf (Elt Ideal) ℓ) (c : Dev nD)

/-- The reference's clipped probabilities, of the kernel's arguments. -/
def table : ReferenceIdeal.S26x4096x64.Idx → EReal :=
  probs (F := Ideal) (logits (m ((c : Thread nD τ).loc main_arg0)) (m ((c : Thread nD τ).loc main_arg1)) (m ((c : Thread nD τ).loc main_arg2))
    (m ((c : Thread nD τ).loc main_arg3)))

/-- Under the precondition every logit is real. -/
theorem real_logits [Cert.Pre_finite.Facts] (hpre : Cert.Pre_KernelIdeal_finite m) (n : Fin 26) (b : Fin 4096) (l : Fin 64) :
    ∃ r : ℝ, logitOf (m ((c : Thread nD τ).loc main_arg0)) (m ((c : Thread nD τ).loc main_arg1)) (m ((c : Thread nD τ).loc main_arg2))
      (m ((c : Thread nD τ).loc main_arg3)) n b l = (r : EReal) := by
  obtain ⟨h0, h2, h3⟩ := hpre c
  exact RefRun.logit_real _ _ _ _ _ (fun k => RefRun.real_of _ (congrFun h0 (xat b k))) (fun k => RefRun.real_of _ (congrFun h2 (wat n _ l)))
    (fun j => RefRun.real_of _ (congrFun h2 (wat n _ l))) (RefRun.real_of _ (congrFun h3 (bat n l)))

section
variable (zz : Fin 26 → Fin 4096 → Fin 64 → ℝ) (ii : Fin 26 → Fin 4096 → Fin 64)
  (hi : ∀ n b, IsFirst (zz n b) (ii n b))
  (hz : ∀ n b l, logitOf (m ((c : Thread nD τ).loc main_arg0)) (m ((c : Thread nD τ).loc main_arg1)) (m ((c : Thread nD τ).loc main_arg2))
    (m ((c : Thread nD τ).loc main_arg3)) n b l = (zz n b l : EReal))
include hi hz

theorem table_at (n : Fin 26) (b : Fin 4096) (l : Fin 64) : table m c (tix n b l) = (clipped (zz n b) (ii n b) l : EReal) :=
  RefRun.probs_at _ n b _ _ (hi n b).1 (fun l => (RefRun.logits_at _ _ _ _ n b l).trans (hz n b l)) l

theorem choices_eq : argTable (F := Ideal) (table m c) = (dats m 0 c).arrAt 5 cfg0.N := by
  funext j
  have e : j = hat (j 0) (j 1) := funext fun a => match a with | ⟨0, _⟩ => rfl | ⟨1, _⟩ => rfl
  rw [e]
  exact (RefRun.argTable_at _ _ _ _ _ (Math.first_clipped _ _ (hi _ _)) fun l => table_at m c zz ii hi hz _ _ l).trans
    (KRun.choices_at m c zz ii hi hz _ _).symm

theorem entropy_eq : entropy (F := Ideal) (table m c) = KRun.scalarOf (F := Ideal) ((dats m 0 c).arrAt 6 cfg0.N) := by
  funext j
  exact (RefRun.entropy_at _ zz ii (fun n b l => table_at m c zz ii hi hz n b l) j).trans (KRun.entropy_at m c zz ii hi hz j).symm

end

/-- Both results meet. -/
theorem meet [Cert.Pre_finite.Facts] (hpre : Cert.Pre_KernelIdeal_finite m) :
    argTable (F := Ideal) (table m c) = (dats m 0 c).arrAt 5 cfg0.N
      ∧ entropy (F := Ideal) (table m c) = KRun.scalarOf (F := Ideal) ((dats m 0 c).arrAt 6 cfg0.N) := by
  choose zz hz using real_logits m c hpre
  choose ii hi using fun n b => Math.exists_first (zz n b)
  exact ⟨choices_eq m c zz ii hi hz, entropy_eq m c zz ii hi hz⟩

end Cert.Meet
-- ==== Proof.lean ====
/-
  The certificate's claim: the generated frames of the kernel and its idealization, the reference's frame from its run
  (Proof/RefRun.lean), and the agreement of the two programs' results (Proof/Meet.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The reference's run at its arguments; it declares no semaphore. -/
theorem frame_reference : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.RefRun.run (F := Ideal) m ρ)

/-- The idealized kernel's results are the reference's. -/
theorem algebraic : Cert.algebraic_KernelIdeal_ReferenceIdeal_pre_finite := by
  intro m g m' g' hpre hagree
  have ht : ∀ c, Cert.RefRun.probsOf (F := Ideal) m' c = Cert.Meet.table m c := fun c => by
    obtain ⟨h0, h1, h2, h3, _⟩ := hagree c
    unfold Cert.RefRun.probsOf Cert.Meet.table
    rw [h0, h1, h2, h3]
  refine ⟨_, _, _, _, Cert.KRun.run (F := Ideal) m g,
    (θ_run Cert.ReferenceIdeal.defs _ _).mono (fun r h c => ⟨(h c).1.trans ?_, (h c).2.1.trans ?_, (h c).2.2.1, (h c).2.2.2.1, (h c).2.2.2.2⟩)
      (Cert.RefRun.run (F := Ideal) m' g')⟩
  · rw [ht]; exact (Cert.Meet.meet m c hpre).1
  · rw [ht]; exact (Cert.Meet.meet m c hpre).2

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  ⟨IdealRules.named_const.statement Cert.KernelIdeal.κ "eps" .f32 0x358637BD#32 _ rfl,
   IdealRules.named_const.statement Cert.KernelIdeal.κ "one_minus_eps" .f32 0x3F7FFFEF#32 _ rfl,
   IdealRules.named_const.statement Cert.KernelIdeal.κ "log_eps" .f32 0xC15D0C55#32 _ rfl,
   IdealRules.named_const.statement Cert.KernelIdeal.κ "log_one_minus_eps" .f32 0xB58637C1#32 _ rfl⟩,
  algebraic⟩

end Cert.Proof

end
